-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x100x16 : Shape := ⟨3, ![16384, 100, 16]⟩
abbrev S100x16x16384 : Shape := ⟨3, ![100, 16, 16384]⟩
abbrev S1600x16384 : Shape := ⟨2, ![1600, 16384]⟩
abbrev S4096 : Shape := ⟨1, ![4096]⟩
abbrev S2176 : Shape := ⟨1, ![2176]⟩
abbrev S2x400x128 : Shape := ⟨3, ![2, 400, 128]⟩
abbrev S2 : Shape := ⟨1, ![2]⟩
abbrev S256 : Shape := ⟨1, ![256]⟩
abbrev S1x400x128 : Shape := ⟨3, ![1, 400, 128]⟩
abbrev S400x128 : Shape := ⟨2, ![400, 128]⟩
abbrev S1 : Shape := ⟨1, ![1]⟩
abbrev S_ : Shape := ⟨0, ![]⟩
abbrev S16 : Shape := ⟨1, ![16]⟩
abbrev S1x16 : Shape := ⟨2, ![1, 16]⟩
abbrev S128 : Shape := ⟨1, ![128]⟩
abbrev S1x12288 : Shape := ⟨2, ![1, 12288]⟩
abbrev S160x12288 : Shape := ⟨2, ![160, 12288]⟩
abbrev S16x12288 : Shape := ⟨2, ![16, 12288]⟩
abbrev S12288 : Shape := ⟨1, ![12288]⟩
abbrev S16384 : Shape := ⟨1, ![16384]⟩
abbrev S16384x1 : Shape := ⟨2, ![16384, 1]⟩

abbrev nBuf : Table → Nat
  | .hbm => 8
  | .local .tc .vmem => 5
  | .local .scVector .vmem => 3
  | _ => 0

abbrev bufTy : (tb : Table) → Fin (nBuf tb) → BufTy
  | .hbm, ⟨0, _⟩ => ⟨S16384x100x16, .f32⟩
  | .hbm, ⟨1, _⟩ => ⟨S100x16x16384, .f32⟩
  | .hbm, ⟨2, _⟩ => ⟨S1600x16384, .f32⟩
  | .hbm, ⟨3, _⟩ => ⟨S4096, .f32⟩
  | .hbm, ⟨4, _⟩ => ⟨S1x12288, .f32⟩
  | .hbm, ⟨5, _⟩ => ⟨S12288, .f32⟩
  | .hbm, ⟨6, _⟩ => ⟨S16384, .f32⟩
  | .hbm, ⟨7, _⟩ => ⟨S16384x1, .f32⟩
  | .local .tc .vmem, ⟨0, _⟩ => ⟨S160x12288, .f32⟩
  | .local .tc .vmem, ⟨1, _⟩ => ⟨S160x12288, .f32⟩
  | .local .tc .vmem, ⟨2, _⟩ => ⟨S1x12288, .f32⟩
  | .local .tc .vmem, ⟨3, _⟩ => ⟨S16x12288, .f32⟩
  | .local .tc .vmem, ⟨4, _⟩ => ⟨S16x12288, .f32⟩
  | .local .scVector .vmem, ⟨0, _⟩ => ⟨S2176, .f32⟩
  | .local .scVector .vmem, ⟨1, _⟩ => ⟨S2x400x128, .f32⟩
  | .local .scVector .vmem, ⟨2, _⟩ => ⟨S256, .f32⟩
  | _, _ => ⟨S16384x100x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v1_scv : Ref sig .scVector := ⟨.hbm, 2, rfl⟩
abbrev main_v2_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc1_scratch1 : Ref sig .tc := ⟨.vmem, 4, rfl⟩
abbrev cc0_scratch0 : Ref sig .scVector := ⟨.vmem, 0, rfl⟩
abbrev cc0_scoped0 : Ref sig .scVector := ⟨.vmem, 1, rfl⟩
abbrev cc0_scoped2 : Ref sig .scVector := ⟨.vmem, 2, rfl⟩
abbrev cc1_sem0_0 : DmaSem sig := 4
abbrev cc1_sem0_1 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_31_r0 : BitVec 32 := 0#32
  let c2_i32_r0 : BitVec 32 := 2#32
  let v33_r0 : BitVec 32 := Scalar.remui c0_i32_31_r0 c2_i32_r0
  let c0_i32_32_r0 : BitVec 32 := 0#32
  let c0_i32_33_r0 : BitVec 32 := 0#32
  ![v33_r0.toNat, 0, 0]
def k0_off2 (i : grid0.Coords) : Fin 2 → Nat :=
  let c0_i32_34_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let c96_i32_r0 : BitVec 32 := 96#32
  let v34_r0 : BitVec 32 := Scalar.addi v7_r0 c96_i32_r0
  let v35_r0 : BitVec 32 := Scalar.muli c128_i32_r0 v34_r0
  ![0, v35_r0.toNat]
def k0_off3 : Fin 1 → Nat :=
  let c0_i32_31_r0 : BitVec 32 := 0#32
  let c2_i32_r0 : BitVec 32 := 2#32
  let v33_r0 : BitVec 32 := Scalar.remui c0_i32_31_r0 c2_i32_r0
  ![v33_r0.toNat]
@[reducible] def k0_t1_loop : Scf.Loop 32 :=
  let c0_i32_45_r0 : BitVec 32 := 0#32
  let c4_i32_46_r0 : BitVec 32 := 4#32
  let v45_r0 : BitVec 32 := Scalar.addi c0_i32_45_r0 c4_i32_46_r0
  let c1_i32_47_r0 : BitVec 32 := 1#32
  ⟨c0_i32_45_r0, v45_r0, c1_i32_47_r0⟩
def k0_off4 (arg6_r0 : BitVec 32) : Fin 3 → Nat :=
  let c2_i32_169_r0 : BitVec 32 := 2#32
  let v206_r0 : BitVec 32 := Scalar.remui arg6_r0 c2_i32_169_r0
  let c0_i32_172_r0 : BitVec 32 := 0#32
  let c0_i32_173_r0 : BitVec 32 := 0#32
  ![v206_r0.toNat, 0, 0]
def k0_cond1 (i : grid0.Coords) (k0_t1 : Fin k0_t1_loop.trips) (arg11_r0 : BitVec 32) : BitVec 1 :=
  let c0_i32_95_r0 : BitVec 32 := 0#32
  let v97_r0 : BitVec 32 := Scalar.addi arg11_r0 c0_i32_95_r0
  let true_107_r0 : BitVec 1 := 1#1
  let c1_i32_106_r0 : BitVec 32 := 1#32
  let v107_r0 : BitVec 32 := Scalar.addi arg11_r0 c1_i32_106_r0
  let v108_r0 : BitVec 32 := Scalar.select true_107_r0 v107_r0 arg11_r0
  let c4_i32_108_r0 : BitVec 32 := 4#32
  let v109_r0 : BitVec 1 := Scalar.cmpi .eq v108_r0 c4_i32_108_r0
  let c0_i32_109_r0 : BitVec 32 := 0#32
  let v110_r0 : BitVec 32 := Scalar.select v109_r0 c0_i32_109_r0 v108_r0
  let c0_i32_115_r0 : BitVec 32 := 0#32
  let v115_r0 : BitVec 32 := Scalar.addi v110_r0 c0_i32_115_r0
  let v127_r0 : BitVec 1 := Scalar.cmpi .ne v97_r0 v115_r0
  let c0_i32_94_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v96_r0 : BitVec 32 := Scalar.addi c0_i32_94_r0 v4
  let c96_i32_126_r0 : BitVec 32 := 96#32
  let v125_r0 : BitVec 32 := Scalar.addi v96_r0 c96_i32_126_r0
  let c0_i32_114_r0 : BitVec 32 := 0#32
  let v114_r0 : BitVec 32 := Scalar.addi c0_i32_114_r0 v4
  let c96_i32_127_r0 : BitVec 32 := 96#32
  let v126_r0 : BitVec 32 := Scalar.addi v114_r0 c96_i32_127_r0
  let v128_r0 : BitVec 1 := Scalar.cmpi .ne v125_r0 v126_r0
  let v129_r0 : BitVec 1 := Scalar.ori v127_r0 v128_r0
  let c0_i32_45_r0 : BitVec 32 := 0#32
  let c1_i32_47_r0 : BitVec 32 := 1#32
  let arg5_r0 : BitVec 32 := Scf.iv c0_i32_45_r0 c1_i32_47_r0 k0_t1
  let c3_i32_128_r0 : BitVec 32 := 3#32
  let v130_r0 : BitVec 1 := Scalar.cmpi .sge arg5_r0 c3_i32_128_r0
  let true_129_r0 : BitVec 1 := 1#1
  let v131_r0 : BitVec 1 := Scalar.xori v130_r0 true_129_r0
  let v132_r0 : BitVec 1 := Scalar.andi v129_r0 v131_r0
  let true_130_r0 : BitVec 1 := 1#1
  let v133_r0 : BitVec 1 := Scalar.andi v132_r0 true_130_r0
  let v134_r0 : BitVec 32 := Scalar.extui v133_r0
  let c0_i32_131_r0 : BitVec 32 := 0#32
  let v135_r0 : BitVec 1 := Scalar.cmpi .ne v134_r0 c0_i32_131_r0
  v135_r0

def k0_off5 (i : grid0.Coords) (arg11_r0 : BitVec 32) : Fin 2 → Nat :=
  let c400_i32_r0 : BitVec 32 := 400#32
  let true_107_r0 : BitVec 1 := 1#1
  let c1_i32_106_r0 : BitVec 32 := 1#32
  let v107_r0 : BitVec 32 := Scalar.addi arg11_r0 c1_i32_106_r0
  let v108_r0 : BitVec 32 := Scalar.select true_107_r0 v107_r0 arg11_r0
  let c4_i32_108_r0 : BitVec 32 := 4#32
  let v109_r0 : BitVec 1 := Scalar.cmpi .eq v108_r0 c4_i32_108_r0
  let c0_i32_109_r0 : BitVec 32 := 0#32
  let v110_r0 : BitVec 32 := Scalar.select v109_r0 c0_i32_109_r0 v108_r0
  let c0_i32_115_r0 : BitVec 32 := 0#32
  let v115_r0 : BitVec 32 := Scalar.addi v110_r0 c0_i32_115_r0
  let v208_r0 : BitVec 32 := Scalar.muli c400_i32_r0 v115_r0
  let c128_i32_171_r0 : BitVec 32 := 128#32
  let c0_i32_114_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v114_r0 : BitVec 32 := Scalar.addi c0_i32_114_r0 v4
  let c96_i32_170_r0 : BitVec 32 := 96#32
  let v207_r0 : BitVec 32 := Scalar.addi v114_r0 c96_i32_170_r0
  let v209_r0 : BitVec 32 := Scalar.muli c128_i32_171_r0 v207_r0
  ![v208_r0.toNat, v209_r0.toNat]
def k0_off6 (arg6_r0 : BitVec 32) : Fin 1 → Nat :=
  let c2_i32_169_r0 : BitVec 32 := 2#32
  let v206_r0 : BitVec 32 := Scalar.remui arg6_r0 c2_i32_169_r0
  ![v206_r0.toNat]
def k0_off7 (arg7_r0 : BitVec 32) : Fin 3 → Nat :=
  let c2_i32_171_r0 : BitVec 32 := 2#32
  let v209_r0 : BitVec 32 := Scalar.remui arg7_r0 c2_i32_171_r0
  let c0_i32_172_r0 : BitVec 32 := 0#32
  let c0_i32_173_r0 : BitVec 32 := 0#32
  ![v209_r0.toNat, 0, 0]
def k0_cond2 (i : grid0.Coords) (k0_t1 : Fin k0_t1_loop.trips) (arg11_r0 : BitVec 32) : BitVec 1 :=
  let c0_i32_95_r0 : BitVec 32 := 0#32
  let v97_r0 : BitVec 32 := Scalar.addi arg11_r0 c0_i32_95_r0
  let true_97_r0 : BitVec 1 := 1#1
  let c1_i32_96_r0 : BitVec 32 := 1#32
  let v98_r0 : BitVec 32 := Scalar.subi arg11_r0 c1_i32_96_r0
  let v99_r0 : BitVec 32 := Scalar.select true_97_r0 v98_r0 arg11_r0
  let c_m1_i32_98_r0 : BitVec 32 := 4294967295#32
  let v100_r0 : BitVec 1 := Scalar.cmpi .eq v99_r0 c_m1_i32_98_r0
  let c3_i32_99_r0 : BitVec 32 := 3#32
  let v101_r0 : BitVec 32 := Scalar.select v100_r0 c3_i32_99_r0 v99_r0
  let c0_i32_105_r0 : BitVec 32 := 0#32
  let v106_r0 : BitVec 32 := Scalar.addi v101_r0 c0_i32_105_r0
  let v144_r0 : BitVec 1 := Scalar.cmpi .ne v97_r0 v106_r0
  let c0_i32_94_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v96_r0 : BitVec 32 := Scalar.addi c0_i32_94_r0 v4
  let c96_i32_126_r0 : BitVec 32 := 96#32
  let v125_r0 : BitVec 32 := Scalar.addi v96_r0 c96_i32_126_r0
  let c0_i32_104_r0 : BitVec 32 := 0#32
  let v105_r0 : BitVec 32 := Scalar.addi c0_i32_104_r0 v4
  let c96_i32_136_r0 : BitVec 32 := 96#32
  let v143_r0 : BitVec 32 := Scalar.addi v105_r0 c96_i32_136_r0
  let v145_r0 : BitVec 1 := Scalar.cmpi .ne v125_r0 v143_r0
  let v146_r0 : BitVec 1 := Scalar.ori v144_r0 v145_r0
  let c0_i32_45_r0 : BitVec 32 := 0#32
  let c1_i32_47_r0 : BitVec 32 := 1#32
  let arg5_r0 : BitVec 32 := Scf.iv c0_i32_45_r0 c1_i32_47_r0 k0_t1
  let c0_i32_92_r0 : BitVec 32 := 0#32
  let v94_r0 : BitVec 1 := Scalar.cmpi .eq arg5_r0 c0_i32_92_r0
  let v147_r0 : BitVec 1 := Scalar.ori v146_r0 v94_r0
  let c0_i32_137_r0 : BitVec 32 := 0#32
  let v148_r0 : BitVec 1 := Scalar.cmpi .sge arg5_r0 c0_i32_137_r0
  let v149_r0 : BitVec 1 := Scalar.andi v147_r0 v148_r0
  let v150_r0 : BitVec 32 := Scalar.extui v149_r0
  let c0_i32_138_r0 : BitVec 32 := 0#32
  let v151_r0 : BitVec 1 := Scalar.cmpi .ne v150_r0 c0_i32_138_r0
  v151_r0

def k0_off8 (i : grid0.Coords) (arg11_r0 : BitVec 32) : Fin 2 → Nat :=
  let c400_i32_r0 : BitVec 32 := 400#32
  let c0_i32_95_r0 : BitVec 32 := 0#32
  let v97_r0 : BitVec 32 := Scalar.addi arg11_r0 c0_i32_95_r0
  let v207_r0 : BitVec 32 := Scalar.muli c400_i32_r0 v97_r0
  let c128_i32_170_r0 : BitVec 32 := 128#32
  let c0_i32_94_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v96_r0 : BitVec 32 := Scalar.addi c0_i32_94_r0 v4
  let c96_i32_169_r0 : BitVec 32 := 96#32
  let v206_r0 : BitVec 32 := Scalar.addi v96_r0 c96_i32_169_r0
  let v208_r0 : BitVec 32 := Scalar.muli c128_i32_170_r0 v206_r0
  ![v207_r0.toNat, v208_r0.toNat]
def k0_off9 (arg7_r0 : BitVec 32) : Fin 1 → Nat :=
  let c2_i32_171_r0 : BitVec 32 := 2#32
  let v209_r0 : BitVec 32 := Scalar.remui arg7_r0 c2_i32_171_r0
  ![v209_r0.toNat]

def k0_chk1 (i : grid0.Coords) (k0_t1 : Fin k0_t1_loop.trips) (arg6_r0 : BitVec 32) (arg7_r0 : BitVec 32) (arg11_r0 : BitVec 32) : Prop :=
  (∀ (k0_h1 : k0_cond1 i k0_t1 arg11_r0 = 1#1), ∀ a, (k0_off4 arg6_r0) a + S1x400x128.size a ≤ S2x400x128.size a) ∧
  (∀ (k0_h1 : k0_cond1 i k0_t1 arg11_r0 = 1#1), ∀ a, (k0_off5 i arg11_r0) a + S400x128.size a ≤ S1600x16384.size a) ∧
  (∀ (k0_h1 : k0_cond1 i k0_t1 arg11_r0 = 1#1), ∀ a, (k0_off6 arg6_r0) a + S1.size a ≤ S2.size a) ∧
  (∀ (k0_h2 : k0_cond2 i k0_t1 arg11_r0 = 1#1), ∀ a, (k0_off7 arg7_r0) a + S1x400x128.size a ≤ S2x400x128.size a) ∧
  (∀ (k0_h2 : k0_cond2 i k0_t1 arg11_r0 = 1#1), ∀ a, (k0_off8 i arg11_r0) a + S400x128.size a ≤ S1600x16384.size a) ∧
  (∀ (k0_h2 : k0_cond2 i k0_t1 arg11_r0 = 1#1), ∀ a, (k0_off9 arg7_r0) a + S1.size a ≤ S2.size a)
theorem k0_off4_inb : ∀ (i : grid0.Coords) (k0_t1 : Fin k0_t1_loop.trips) (arg6_r0 : BitVec 32) (arg7_r0 : BitVec 32) (arg11_r0 : BitVec 32) (k0_hw1 : k0_chk1 i k0_t1 arg6_r0 arg7_r0 arg11_r0), ∀ (k0_h1 : k0_cond1 i k0_t1 arg11_r0 = 1#1), ∀ a, (k0_off4 arg6_r0) a + S1x400x128.size a ≤ S2x400x128.size a := fun i k0_t1 arg6_r0 arg7_r0 arg11_r0 k0_hw1 k0_h1 => k0_hw1.1 k0_h1
theorem k0_off5_inb : ∀ (i : grid0.Coords) (k0_t1 : Fin k0_t1_loop.trips) (arg6_r0 : BitVec 32) (arg7_r0 : BitVec 32) (arg11_r0 : BitVec 32) (k0_hw1 : k0_chk1 i k0_t1 arg6_r0 arg7_r0 arg11_r0), ∀ (k0_h1 : k0_cond1 i k0_t1 arg11_r0 = 1#1), ∀ a, (k0_off5 i arg11_r0) a + S400x128.size a ≤ S1600x16384.size a := fun i k0_t1 arg6_r0 arg7_r0 arg11_r0 k0_hw1 k0_h1 => k0_hw1.2.1 k0_h1
theorem k0_off6_inb : ∀ (i : grid0.Coords) (k0_t1 : Fin k0_t1_loop.trips) (arg6_r0 : BitVec 32) (arg7_r0 : BitVec 32) (arg11_r0 : BitVec 32) (k0_hw1 : k0_chk1 i k0_t1 arg6_r0 arg7_r0 arg11_r0), ∀ (k0_h1 : k0_cond1 i k0_t1 arg11_r0 = 1#1), ∀ a, (k0_off6 arg6_r0) a + S1.size a ≤ S2.size a := fun i k0_t1 arg6_r0 arg7_r0 arg11_r0 k0_hw1 k0_h1 => k0_hw1.2.2.1 k0_h1
theorem k0_off7_inb : ∀ (i : grid0.Coords) (k0_t1 : Fin k0_t1_loop.trips) (arg6_r0 : BitVec 32) (arg7_r0 : BitVec 32) (arg11_r0 : BitVec 32) (k0_hw1 : k0_chk1 i k0_t1 arg6_r0 arg7_r0 arg11_r0), ∀ (k0_h2 : k0_cond2 i k0_t1 arg11_r0 = 1#1), ∀ a, (k0_off7 arg7_r0) a + S1x400x128.size a ≤ S2x400x128.size a := fun i k0_t1 arg6_r0 arg7_r0 arg11_r0 k0_hw1 k0_h2 => k0_hw1.2.2.2.1 k0_h2
theorem k0_off8_inb : ∀ (i : grid0.Coords) (k0_t1 : Fin k0_t1_loop.trips) (arg6_r0 : BitVec 32) (arg7_r0 : BitVec 32) (arg11_r0 : BitVec 32) (k0_hw1 : k0_chk1 i k0_t1 arg6_r0 arg7_r0 arg11_r0), ∀ (k0_h2 : k0_cond2 i k0_t1 arg11_r0 = 1#1), ∀ a, (k0_off8 i arg11_r0) a + S400x128.size a ≤ S1600x16384.size a := fun i k0_t1 arg6_r0 arg7_r0 arg11_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg11_r0 : BitVec 32) (k0_hw1 : k0_chk1 i k0_t1 arg6_r0 arg7_r0 arg11_r0), ∀ (k0_h2 : k0_cond2 i k0_t1 arg11_r0 = 1#1), ∀ a, (k0_off9 arg7_r0) a + S1.size a ≤ S2.size a := fun i k0_t1 arg6_r0 arg7_r0 arg11_r0 k0_hw1 k0_h2 => k0_hw1.2.2.2.2.2 k0_h2

@[reducible] def k0_t2_loop : Scf.Loop 32 :=
  let c0_i32_145_r0 : BitVec 32 := 0#32
  let c8_i32_r0 : BitVec 32 := 8#32
  let v162_r0 : BitVec 32 := Scalar.addi c0_i32_145_r0 c8_i32_r0
  let c1_i32_146_r0 : BitVec 32 := 1#32
  ⟨c0_i32_145_r0, v162_r0, c1_i32_146_r0⟩
def k0_off10 (k0_t2 : Fin k0_t2_loop.trips) (c0_i32_171_r0 : BitVec 32) : Fin 1 → Nat :=
  let c0_i32_170_r0 : BitVec 32 := 0#32
  let c0_i32_145_r0 : BitVec 32 := 0#32
  let c1_i32_146_r0 : BitVec 32 := 1#32
  let arg12_r0 : BitVec 32 := Scf.iv c0_i32_145_r0 c1_i32_146_r0 k0_t2
  let c1_i32_169_r0 : BitVec 32 := 1#32
  let v206_r0 : BitVec 32 := Scalar.muli arg12_r0 c1_i32_169_r0
  let v207_r0 : BitVec 32 := Scalar.addi c0_i32_170_r0 v206_r0
  let c272_i32_r0 : BitVec 32 := 272#32
  let v208_r0 : BitVec 32 := Scalar.muli v207_r0 c272_i32_r0
  let v209_r0 : BitVec 32 := Scalar.addi v208_r0 c0_i32_171_r0
  let v210_r0 : Index := Scalar.indexCast v209_r0
  ![v210_r0.toNat]
@[reducible] def k0_t3_loop : Scf.Loop 32 :=
  let c0_i32_194_r0 : BitVec 32 := 0#32
  let c25_i32_r0 : BitVec 32 := 25#32
  let v297_r0 : BitVec 32 := Scalar.addi c0_i32_194_r0 c25_i32_r0
  let c1_i32_195_r0 : BitVec 32 := 1#32
  ⟨c0_i32_194_r0, v297_r0, c1_i32_195_r0⟩
def k0_off11 (arg7_r0 : BitVec 32) : Fin 3 → Nat :=
  let c2_i32_141_r0 : BitVec 32 := 2#32
  let v158_r0 : BitVec 32 := Scalar.remui arg7_r0 c2_i32_141_r0
  let c0_i32_219_r0 : BitVec 32 := 0#32
  let c0_i32_220_r0 : BitVec 32 := 0#32
  ![v158_r0.toNat, 0, 0]

def k0_chk2 (arg7_r0 : BitVec 32) : Prop :=
  (∀ a, (k0_off11 arg7_r0) a + S1x400x128.size a ≤ S2x400x128.size a)
theorem k0_off11_inb : ∀ (arg7_r0 : BitVec 32) (k0_hw2 : k0_chk2 arg7_r0), ∀ a, (k0_off11 arg7_r0) a + S1x400x128.size a ≤ S2x400x128.size a := fun arg7_r0 k0_hw2 => k0_hw2

def k0_off12 (k0_t2 : Fin k0_t2_loop.trips) (k0_t3 : Fin k0_t3_loop.trips) (c0_i32_217_r0 : BitVec 32) : Fin 2 → Nat :=
  let c0_i32_194_r0 : BitVec 32 := 0#32
  let c1_i32_195_r0 : BitVec 32 := 1#32
  let arg13_r0 : BitVec 32 := Scf.iv c0_i32_194_r0 c1_i32_195_r0 k0_t3
  let c16_i32_216_r0 : BitVec 32 := 16#32
  let v391_r0 : BitVec 32 := Scalar.muli arg13_r0 c16_i32_216_r0
  let v392_r0 : BitVec 32 := Scalar.addi v391_r0 c0_i32_217_r0
  let v396_r0 : Index := Scalar.indexCast v392_r0
  let c0_i32_170_r0 : BitVec 32 := 0#32
  let c0_i32_145_r0 : BitVec 32 := 0#32
  let c1_i32_146_r0 : BitVec 32 := 1#32
  let arg12_r0 : BitVec 32 := Scf.iv c0_i32_145_r0 c1_i32_146_r0 k0_t2
  let c1_i32_169_r0 : BitVec 32 := 1#32
  let v206_r0 : BitVec 32 := Scalar.muli arg12_r0 c1_i32_169_r0
  let v207_r0 : BitVec 32 := Scalar.addi c0_i32_170_r0 v206_r0
  let c16_i32_218_r0 : BitVec 32 := 16#32
  let v393_r0 : BitVec 32 := Scalar.muli v207_r0 c16_i32_218_r0
  let v397_r0 : Index := Scalar.indexCast v393_r0
  ![v396_r0.toNat, v397_r0.toNat]
def k0_off13 (arg8_r0 : BitVec 32) : Fin 1 → Nat :=
  let c2_i32_142_r0 : BitVec 32 := 2#32
  let v159_r0 : BitVec 32 := Scalar.remui arg8_r0 c2_i32_142_r0
  let c128_i32_143_r0 : BitVec 32 := 128#32
  let v160_r0 : BitVec 32 := Scalar.muli v159_r0 c128_i32_143_r0
  ![v160_r0.toNat]

def k0_off14 (k0_t2 : Fin k0_t2_loop.trips) : Fin 1 → Nat :=
  let c0_i32_170_r0 : BitVec 32 := 0#32
  let c0_i32_145_r0 : BitVec 32 := 0#32
  let c1_i32_146_r0 : BitVec 32 := 1#32
  let arg12_r0 : BitVec 32 := Scf.iv c0_i32_145_r0 c1_i32_146_r0 k0_t2
  let c1_i32_169_r0 : BitVec 32 := 1#32
  let v206_r0 : BitVec 32 := Scalar.muli arg12_r0 c1_i32_169_r0
  let v207_r0 : BitVec 32 := Scalar.addi c0_i32_170_r0 v206_r0
  let c16_i32_215_r0 : BitVec 32 := 16#32
  let v387_r0 : BitVec 32 := Scalar.muli v207_r0 c16_i32_215_r0
  let v389_r0 : Index := Scalar.indexCast v387_r0
  ![v389_r0.toNat]
def k0_cond5 (i : grid0.Coords) (k0_t1 : Fin k0_t1_loop.trips) : BitVec 1 :=
  let c0_i32_94_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v96_r0 : BitVec 32 := Scalar.addi c0_i32_94_r0 v4
  let c0_i32_114_r0 : BitVec 32 := 0#32
  let v114_r0 : BitVec 32 := Scalar.addi c0_i32_114_r0 v4
  let v170_r0 : BitVec 1 := Scalar.cmpi .ne v96_r0 v114_r0
  let c0_i32_45_r0 : BitVec 32 := 0#32
  let c1_i32_47_r0 : BitVec 32 := 1#32
  let arg5_r0 : BitVec 32 := Scf.iv c0_i32_45_r0 c1_i32_47_r0 k0_t1
  let c3_i32_93_r0 : BitVec 32 := 3#32
  let v95_r0 : BitVec 1 := Scalar.cmpi .eq arg5_r0 c3_i32_93_r0
  let v171_r0 : BitVec 1 := Scalar.ori v170_r0 v95_r0
  let v172_r0 : BitVec 32 := Scalar.extui v171_r0
  let c0_i32_149_r0 : BitVec 32 := 0#32
  let v173_r0 : BitVec 1 := Scalar.cmpi .ne v172_r0 c0_i32_149_r0
  v173_r0

def k0_off15 (arg8_r0 : BitVec 32) : Fin 1 → Nat :=
  let c2_i32_169_r0 : BitVec 32 := 2#32
  let v206_r0 : BitVec 32 := Scalar.remui arg8_r0 c2_i32_169_r0
  let c128_i32_171_r0 : BitVec 32 := 128#32
  let v208_r0 : BitVec 32 := Scalar.muli v206_r0 c128_i32_171_r0
  let c0_i32_172_r0 : BitVec 32 := 0#32
  let v209_r0 : BitVec 32 := Scalar.addi v208_r0 c0_i32_172_r0
  ![v209_r0.toNat]
def k0_off16 (i : grid0.Coords) : Fin 1 → Nat :=
  let c128_i32_170_r0 : BitVec 32 := 128#32
  let c0_i32_94_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v96_r0 : BitVec 32 := Scalar.addi c0_i32_94_r0 v4
  let v207_r0 : BitVec 32 := Scalar.muli c128_i32_170_r0 v96_r0
  ![v207_r0.toNat]
def k0_off17 (arg8_r0 : BitVec 32) : Fin 1 → Nat :=
  let c2_i32_169_r0 : BitVec 32 := 2#32
  let v206_r0 : BitVec 32 := Scalar.remui arg8_r0 c2_i32_169_r0
  ![v206_r0.toNat]

def k0_chk3 (i : grid0.Coords) (k0_t1 : Fin k0_t1_loop.trips) (arg8_r0 : BitVec 32) : Prop :=
  (∀ a, (k0_off13 arg8_r0) a + S128.size a ≤ S256.size a) ∧
  (∀ (k0_h5 : k0_cond5 i k0_t1 = 1#1), ∀ a, (k0_off15 arg8_r0) a + S128.size a ≤ S256.size a) ∧
  (∀ (k0_h5 : k0_cond5 i k0_t1 = 1#1), ∀ a, (k0_off17 arg8_r0) a + S1.size a ≤ S2.size a)
theorem k0_off13_inb : ∀ (i : grid0.Coords) (k0_t1 : Fin k0_t1_loop.trips) (arg8_r0 : BitVec 32) (k0_hw3 : k0_chk3 i k0_t1 arg8_r0), ∀ a, (k0_off13 arg8_r0) a + S128.size a ≤ S256.size a := fun i k0_t1 arg8_r0 k0_hw3 => k0_hw3.1
theorem k0_off15_inb : ∀ (i : grid0.Coords) (k0_t1 : Fin k0_t1_loop.trips) (arg8_r0 : BitVec 32) (k0_hw3 : k0_chk3 i k0_t1 arg8_r0), ∀ (k0_h5 : k0_cond5 i k0_t1 = 1#1), ∀ a, (k0_off15 arg8_r0) a + S128.size a ≤ S256.size a := fun i k0_t1 arg8_r0 k0_hw3 k0_h5 => k0_hw3.2.1 k0_h5
theorem k0_off17_inb : ∀ (i : grid0.Coords) (k0_t1 : Fin k0_t1_loop.trips) (arg8_r0 : BitVec 32) (k0_hw3 : k0_chk3 i k0_t1 arg8_r0), ∀ (k0_h5 : k0_cond5 i k0_t1 = 1#1), ∀ a, (k0_off17 arg8_r0) a + S1.size a ≤ S2.size a := fun i k0_t1 arg8_r0 k0_hw3 k0_h5 => k0_hw3.2.2 k0_h5

def k0_cond7 (i : grid0.Coords) (k0_t1 : Fin k0_t1_loop.trips) : BitVec 1 :=
  let c0_i32_94_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v96_r0 : BitVec 32 := Scalar.addi c0_i32_94_r0 v4
  let c0_i32_104_r0 : BitVec 32 := 0#32
  let v105_r0 : BitVec 32 := Scalar.addi c0_i32_104_r0 v4
  let v185_r0 : BitVec 1 := Scalar.cmpi .ne v96_r0 v105_r0
  let c0_i32_45_r0 : BitVec 32 := 0#32
  let c1_i32_47_r0 : BitVec 32 := 1#32
  let arg5_r0 : BitVec 32 := Scf.iv c0_i32_45_r0 c1_i32_47_r0 k0_t1
  let c0_i32_92_r0 : BitVec 32 := 0#32
  let v94_r0 : BitVec 1 := Scalar.cmpi .eq arg5_r0 c0_i32_92_r0
  let true_155_r0 : BitVec 1 := 1#1
  let v186_r0 : BitVec 1 := Scalar.xori v94_r0 true_155_r0
  let v187_r0 : BitVec 1 := Scalar.andi v185_r0 v186_r0
  let v188_r0 : BitVec 32 := Scalar.extui v187_r0
  let c0_i32_156_r0 : BitVec 32 := 0#32
  let v189_r0 : BitVec 1 := Scalar.cmpi .ne v188_r0 c0_i32_156_r0
  v189_r0

def k0_off18 (arg9_r0 : BitVec 32) : Fin 1 → Nat :=
  let c2_i32_169_r0 : BitVec 32 := 2#32
  let v206_r0 : BitVec 32 := Scalar.remui arg9_r0 c2_i32_169_r0
  let c128_i32_171_r0 : BitVec 32 := 128#32
  let v208_r0 : BitVec 32 := Scalar.muli v206_r0 c128_i32_171_r0
  let c0_i32_172_r0 : BitVec 32 := 0#32
  let v209_r0 : BitVec 32 := Scalar.addi v208_r0 c0_i32_172_r0
  ![v209_r0.toNat]

def k0_off19 (i : grid0.Coords) : Fin 1 → Nat :=
  let c128_i32_170_r0 : BitVec 32 := 128#32
  let c0_i32_104_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v105_r0 : BitVec 32 := Scalar.addi c0_i32_104_r0 v4
  let v207_r0 : BitVec 32 := Scalar.muli c128_i32_170_r0 v105_r0
  ![v207_r0.toNat]
def k0_off20 (arg9_r0 : BitVec 32) : Fin 1 → Nat :=
  let c2_i32_169_r0 : BitVec 32 := 2#32
  let v206_r0 : BitVec 32 := Scalar.remui arg9_r0 c2_i32_169_r0
  ![v206_r0.toNat]

def k0_chk4 (i : grid0.Coords) (k0_t1 : Fin k0_t1_loop.trips) (arg9_r0 : BitVec 32) : Prop :=
  (∀ (k0_h7 : k0_cond7 i k0_t1 = 1#1), ∀ a, (k0_off18 arg9_r0) a + S128.size a ≤ S256.size a) ∧
  (∀ (k0_h7 : k0_cond7 i k0_t1 = 1#1), ∀ a, (k0_off20 arg9_r0) a + S1.size a ≤ S2.size a)
theorem k0_off18_inb : ∀ (i : grid0.Coords) (k0_t1 : Fin k0_t1_loop.trips) (arg9_r0 : BitVec 32) (k0_hw4 : k0_chk4 i k0_t1 arg9_r0), ∀ (k0_h7 : k0_cond7 i k0_t1 = 1#1), ∀ a, (k0_off18 arg9_r0) a + S128.size a ≤ S256.size a := fun i k0_t1 arg9_r0 k0_hw4 k0_h7 => k0_hw4.1 k0_h7
theorem k0_off20_inb : ∀ (i : grid0.Coords) (k0_t1 : Fin k0_t1_loop.trips) (arg9_r0 : BitVec 32) (k0_hw4 : k0_chk4 i k0_t1 arg9_r0), ∀ (k0_h7 : k0_cond7 i k0_t1 = 1#1), ∀ a, (k0_off20 arg9_r0) a + S1.size a ≤ S2.size a := fun i k0_t1 arg9_r0 k0_hw4 k0_h7 => k0_hw4.2 k0_h7

def k0_off21 (v46_3_r0 : BitVec 32) : Fin 1 → Nat :=
  let c2_i32_88_r0 : BitVec 32 := 2#32
  let v84_r0 : BitVec 32 := Scalar.remui v46_3_r0 c2_i32_88_r0
  let c128_i32_90_r0 : BitVec 32 := 128#32
  let v86_r0 : BitVec 32 := Scalar.muli v84_r0 c128_i32_90_r0
  let c0_i32_91_r0 : BitVec 32 := 0#32
  let v87_r0 : BitVec 32 := Scalar.addi v86_r0 c0_i32_91_r0
  ![v87_r0.toNat]

def k0_off22 (i : grid0.Coords) : Fin 1 → Nat :=
  let c128_i32_89_r0 : BitVec 32 := 128#32
  let c0_i32_56_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v55_r0 : BitVec 32 := Scalar.addi c0_i32_56_r0 v4
  let v85_r0 : BitVec 32 := Scalar.muli c128_i32_89_r0 v55_r0
  ![v85_r0.toNat]
def k0_off23 (v46_3_r0 : BitVec 32) : Fin 1 → Nat :=
  let c2_i32_88_r0 : BitVec 32 := 2#32
  let v84_r0 : BitVec 32 := Scalar.remui v46_3_r0 c2_i32_88_r0
  ![v84_r0.toNat]

def k0_chk5 (v46_3_r0 : BitVec 32) : Prop :=
  (∀ a, (k0_off21 v46_3_r0) a + S128.size a ≤ S256.size a) ∧
  (∀ a, (k0_off23 v46_3_r0) a + S1.size a ≤ S2.size a)
theorem k0_off21_inb : ∀ (v46_3_r0 : BitVec 32) (k0_hw5 : k0_chk5 v46_3_r0), ∀ a, (k0_off21 v46_3_r0) a + S128.size a ≤ S256.size a := fun v46_3_r0 k0_hw5 => k0_hw5.1
theorem k0_off23_inb : ∀ (v46_3_r0 : BitVec 32) (k0_hw5 : k0_chk5 v46_3_r0), ∀ a, (k0_off23 v46_3_r0) a + S1.size a ≤ S2.size a := fun v46_3_r0 k0_hw5 => k0_hw5.2

abbrev grid1 : Pipeline.Grid := ⟨1, ![10], ![false]⟩

def k1_cond1 (i : grid1.Coords) : BitVec 1 :=
  let arg0 : BitVec 32 := BitVec.ofNat 32 (i 0).val
  let c9_i32 : BitVec 32 := 9#32
  let v62 : BitVec 1 := Scalar.cmpi .eq arg0 c9_i32
  let v63 : BitVec 32 := Scalar.extui v62
  let c0_i32_19 : BitVec 32 := 0#32
  let v64 : BitVec 1 := Scalar.cmpi .ne v63 c0_i32_19
  v64

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S160x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x12288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x100x16 : Shape := ⟨3, ![16384, 100, 16]⟩
abbrev S_ : Shape := ⟨0, ![]⟩
abbrev S16384x16 : Shape := ⟨2, ![16384, 16]⟩
abbrev S16384 : Shape := ⟨1, ![16384]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x100x16, .f32⟩
  | .hbm, ⟨1, _⟩ => ⟨S_, .f32⟩
  | .hbm, ⟨2, _⟩ => ⟨S16384x16, .f32⟩
  | .hbm, ⟨3, _⟩ => ⟨S16384x16, .f32⟩
  | .hbm, ⟨4, _⟩ => ⟨S16384x100x16, .f32⟩
  | .hbm, ⟨5, _⟩ => ⟨S_, .f32⟩
  | .hbm, ⟨6, _⟩ => ⟨S16384x16, .f32⟩
  | .hbm, ⟨7, _⟩ => ⟨S16384x16, .f32⟩
  | .hbm, ⟨8, _⟩ => ⟨S_, .f32⟩
  | .hbm, ⟨9, _⟩ => ⟨S16384x16, .f32⟩
  | .hbm, ⟨10, _⟩ => ⟨S16384x16, .f32⟩
  | .hbm, ⟨11, _⟩ => ⟨S_, .f32⟩
  | .hbm, ⟨12, _⟩ => ⟨S16384, .f32⟩
  | .hbm, ⟨13, _⟩ => ⟨S16384x1, .f32⟩
  | _, _ => ⟨S16384x100x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Setup.lean ====
/-
  The program as the launch theorem sees it, the resource algebra, and the names the other modules share: the
  SparseCore's configuration, the buffers each vector subcore works on, and how a subcore's own buffers and
  semaphores split into the ones the kernel names and the rest.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped, and no buffer is shared between a SparseCore's subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers of the SparseCore call -/

/-- The field table as the vector subcores see it. -/
abbrev xV : Memref sig Kind.scVector Space.hbm S1600x16384 EltTy.f32 := Memref.whole main_v1_scv
/-- The SparseCore's part of the result. -/
abbrev oV : Memref sig Kind.scVector Space.hbm S4096 EltTy.f32 := Memref.whole main_v2_scv
/-- A subcore's accumulators. -/
abbrev aV : Memref sig Kind.scVector Space.vmem S2176 EltTy.f32 := Memref.whole cc0_scratch0
/-- A subcore's two input slots. -/
abbrev bV : Memref sig Kind.scVector Space.vmem S2x400x128 EltTy.f32 := Memref.whole cc0_scoped0
/-- A subcore's two output slots. -/
abbrev wV : Memref sig Kind.scVector Space.vmem S256 EltTy.f32 := Memref.whole cc0_scoped2

abbrev cV (L : grid0.Coords) : Fin τ.nSC := (L 0).castLE hcore0
abbrev jV (L : grid0.Coords) : Fin τ.nSub := (L 1).castLE hsub0

/-- The vector subcore that runs grid point `L` on device `d`. -/
abbrev thr (d : Dev nD) (L : grid0.Coords) : Thread nD τ := V d (cV L) (jV L)

/-! ## The slots, the blocks and the semaphores, by offset -/

theorem slot_inb (p : Fin 2) : ∀ a, (![p.val, 0, 0] : Fin 3 → Nat) a + S1x400x128.size a ≤ S2x400x128.size a := by
  revert p; decide
/-- The input slot at an offset. -/
abbrev slotAt (off : Fin 3 → Nat) (h : ∀ a, off a + S1x400x128.size a ≤ S2x400x128.size a) : Memref sig .scVector .vmem S400x128 .f32 :=
  ((bV).slice (Rect.unit (s := S2x400x128) off S1x400x128.size h) (fun _ => rfl)).squeeze S400x128 squeezes_S1x400x128_S400x128
/-- Input slot `p`. -/
abbrev slotM (p : Fin 2) : Memref sig .scVector .vmem S400x128 .f32 := slotAt ![p.val, 0, 0] (slot_inb p)
theorem slotAt_eq {off off' : Fin 3 → Nat} (e : off = off') (h) (h') : slotAt off h = slotAt off' h' := by subst e; rfl

/-- The block of the field table at an offset. -/
abbrev srcAt (off : Fin 2 → Nat) (h : ∀ a, off a + S400x128.size a ≤ S1600x16384.size a) : Memref sig .scVector .hbm S400x128 .f32 :=
  (xV).slice (Rect.unit (s := S1600x16384) off S400x128.size h) (fun _ => rfl)
theorem srcAt_eq {off off' : Fin 2 → Nat} (e : off = off') (h) (h') : srcAt off h = srcAt off' h' := by subst e; rfl

/-- The number of grid point `L`'s 128 columns among the SparseCore's 32 blocks of columns. -/
def blk (L : grid0.Coords) : Fin 32 := ⟨(L 1).val + 16 * (L 0).val, by
  have h0 : (L 0).val < 2 := (L 0).isLt; have h1 : (L 1).val < 16 := (L 1).isLt; omega⟩

theorem src_inb (b : Fin 32) (k : Fin 4) : ∀ a, (![400 * k.val, 12288 + 128 * b.val] : Fin 2 → Nat) a + S400x128.size a ≤ S1600x16384.size a := by
  have := b.isLt; have := k.isLt
  intro a; match a with
  | 0 => show 400 * k.val + 400 ≤ 1600; omega
  | 1 => show 12288 + 128 * b.val + 128 ≤ 16384; omega
/-- Rows `400 k …` of block `b`'s columns. -/
abbrev srcM (b : Fin 32) (k : Fin 4) : Memref sig .scVector .hbm S400x128 .f32 := srcAt ![400 * k.val, 12288 + 128 * b.val] (src_inb b k)

/-- The output slot at an offset. -/
abbrev stageAt (off : Fin 1 → Nat) (h : ∀ a, off a + S128.size a ≤ S256.size a) : Memref sig .scVector .vmem S128 .f32 :=
  (wV).slice (Rect.unit (s := S256) off S128.size h) (fun _ => rfl)
theorem stageAt_eq {off off' : Fin 1 → Nat} (e : off = off') (h) (h') : stageAt off h = stageAt off' h' := by subst e; rfl
/-- The first output slot, the only one a subcore uses. -/
abbrev stageM : Memref sig .scVector .vmem S128 .f32 := stageAt ![0] (by decide)

/-- The block of the result at an offset. -/
abbrev dstAt (off : Fin 1 → Nat) (h : ∀ a, off a + S128.size a ≤ S4096.size a) : Memref sig .scVector .hbm S128 .f32 :=
  (oV).slice (Rect.unit (s := S4096) off S128.size h) (fun _ => rfl)
theorem dstAt_eq {off off' : Fin 1 → Nat} (e : off = off') (h) (h') : dstAt off h = dstAt off' h' := by subst e; rfl
theorem dst_inb (b : Fin 32) : ∀ a, (![128 * b.val] : Fin 1 → Nat) a + S128.size a ≤ S4096.size a := by
  have := b.isLt
  intro a; match a with
  | 0 => show 128 * b.val + 128 ≤ 4096; omega
/-- Block `b` of the result. -/
abbrev dstM (b : Fin 32) : Memref sig .scVector .hbm S128 .f32 := dstAt ![128 * b.val] (dst_inb b)

/-- The semaphore at an offset of a pair. -/
abbrev semAt (s : DmaSems sig S2) (off : Fin 1 → Nat) (h : ∀ a, off a + S1.size a ≤ S2.size a) : DmaSem sig :=
  ((s.slice (Rect.unit (s := S2) off S1.size h)).squeeze S_ squeezes_S1_S_).sem
theorem semAt_eq {s : DmaSems sig S2} {off off' : Fin 1 → Nat} (e : off = off') (h) (h') : semAt s off h = semAt s off' h' := by subst e; rfl
theorem sem_inb (p : Fin 2) : ∀ a, (![p.val] : Fin 1 → Nat) a + S1.size a ≤ S2.size a := by revert p; decide
/-- Input slot `p`'s semaphore. -/
abbrev semI (p : Fin 2) : DmaSem sig := semAt cc0_scoped1 ![p.val] (sem_inb p)
/-- Output slot `p`'s semaphore. -/
abbrev semO (p : Fin 2) : DmaSem sig := semAt cc0_scoped3 ![p.val] (sem_inb p)
theorem semI_eq : ∀ p : Fin 2, semI p = (⟨p.val, by have := p.isLt; show p.val < 7; omega⟩ : Fin 7) := by decide
theorem semO_eq : ∀ p : Fin 2, semO p = (⟨2 + p.val, by have := p.isLt; show 2 + p.val < 7; omega⟩ : Fin 7) := by decide

/-! ## A subcore's own buffers and semaphores -/

variable (d : Dev nD) (L : grid0.Coords)

abbrev cellI (p : Fin 2) : GSem nD τ sig := (thr d L, .dma (semI p))
abbrev cellO (p : Fin 2) : GSem nD τ sig := (thr d L, .dma (semO p))

theorem ne_cell {s s' : DmaSem sig} (h : s ≠ s') : ((thr d L, .dma s) : GSem nD τ sig) ≠ (thr d L, .dma s') := fun e =>
  h (SemLoc.dma.inj (Prod.mk.inj e).2)
theorem mem_cell {s : DmaSem sig} (h : (SemLoc.dma s : SemLoc sig).isScoped .scVector = true) :
    ((thr d L, .dma s) : GSem nD τ sig) ∈ ownCells (thr d L) := mem_ownCells.mpr ⟨rfl, h⟩

/-- The subcore's semaphores: the two input slots', the first output slot's, and the rest. -/
theorem ownSems0_V :
    (ownSems0 (thr d L) : sProp 𝕄)
      = iprop(semVal (cellI d L 0) 0 ∗ semVal (cellI d L 1) 0 ∗ semVal (cellO d L 0) 0
          ∗ bigSep ((((ownCells (thr d L)).erase (cellI d L 0)).erase (cellI d L 1)).erase (cellO d L 0)) fun g => semVal g 0) := by
  unfold SparseCore.Cfg.ownSems0
  rw [SparseCore.bigSep_erase' (mem_cell d L (s := semI 0) (by decide)),
    SparseCore.bigSep_erase' (Finset.mem_erase.mpr ⟨ne_cell d L (s := semI 1) (s' := semI 0) (by decide), mem_cell d L (by decide)⟩),
    SparseCore.bigSep_erase' (Finset.mem_erase.mpr ⟨ne_cell d L (s := semO 0) (s' := semI 1) (by decide),
      Finset.mem_erase.mpr ⟨ne_cell d L (s := semO 0) (s' := semI 0) (by decide), mem_cell d L (by decide)⟩⟩)]

abbrev dref (r : Ref sig .scVector) : DevRef τ sig := (Proc.scVector (cV L) (jV L)).devRef r
theorem ne_dref {r r' : Ref sig .scVector} (h : r ≠ r') : dref L r ≠ dref L r' := fun e => h (Proc.devRef_injective _ e)

/-- The subcore's buffers: accumulators, input slots, output slots, and the rest. -/
theorem ownBufs_V :
    (ownBufs (thr d L) : sProp 𝕄)
      = iprop((∃ f, (thr d L).loc cc0_scratch0 ↦{fullShare} f) ∗ (∃ f, (thr d L).loc cc0_scoped0 ↦{fullShare} f)
          ∗ (∃ f, (thr d L).loc cc0_scoped2 ↦{fullShare} f)
          ∗ bigSep ((((ownRefs (τ := τ) (.scVector (cV L) (jV L))).erase (dref L cc0_scratch0)).erase (dref L cc0_scoped0)).erase (dref L cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dref L cc0_scratch0) rfl)).trans ?_
  rw [SparseCore.bigSep_erase' (Finset.mem_erase.mpr ⟨ne_dref L (r := cc0_scoped0) (r' := cc0_scratch0) (by decide),
      SparseCore.Cfg.mem_ownRefs_of_owner (p := Proc.scVector (cV L) (jV L)) (b := dref L cc0_scoped0) rfl⟩),
    SparseCore.bigSep_erase' (Finset.mem_erase.mpr ⟨ne_dref L (r := cc0_scoped2) (r' := cc0_scoped0) (by decide),
      Finset.mem_erase.mpr ⟨ne_dref L (r := cc0_scoped2) (r' := cc0_scratch0) (by decide),
      SparseCore.Cfg.mem_ownRefs_of_owner (p := Proc.scVector (cV L) (jV L)) (b := dref L cc0_scoped2) rfl⟩⟩)]

end Cert.Proof

end
-- ==== Proof.TileMath.lean ====
/-
  What one vector subcore computes, as functions of the numbers it reads: the running sums over a segment's 25 fields,
  the accumulators after a segment, the results a segment writes. Over any float values.
-/
module

public import proofs.«01_k».proof.Proof.Setup
public import Idealize.ShloMosaic.Lib.ValueIdx
public import Idealize.ShloMosaic.Lib.Pipeline.Value

@[expose] public section

set_option maxRecDepth 16384

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Indices by number -/

/-- Lane `l` of a 16-lane vector (numbers wrap round, so the function is total). -/
def p16 (l : Nat) : S16.Idx := ix1 ⟨l % 16, Nat.mod_lt _ (by decide)⟩
/-- Accumulator word `y`. -/
def pAcc (y : Nat) : S2176.Idx := ix1 ⟨y % 2176, Nat.mod_lt _ (by decide)⟩
/-- Entry `(r, c)` of a segment's block. -/
def pBlk (r c : Nat) : S400x128.Idx := ix2 ⟨r % 400, Nat.mod_lt _ (by decide)⟩ ⟨c % 128, Nat.mod_lt _ (by decide)⟩

/-! ## One segment: 25 fields of 16 rows each, columns in groups of 16 -/

/-- Field `j`'s entry `t` for the 16 columns of group `g`. -/
def xv (X : S400x128.Idx → F .f32) (g j t : Nat) : FVec F S16 .f32 := fun l => X (pBlk (16 * j + t) (16 * g + (l 0).val))

/-- The sum of entry `t` over the first `n` fields, added to `a`. -/
def sAt (X : S400x128.Idx → F .f32) (g t : Nat) : Nat → FVec F S16 .f32 → FVec F S16 .f32
  | 0, a => a
  | n + 1, a => addf (sAt X g t n a) (xv X g n t)

/-- A vector's squares. -/
def sq (v : FVec F S16 .f32) : FVec F S16 .f32 := mulf v v

/-- The sum of the squares of entries `r`, `r + 4`, `r + 8`, `r + 12` over the first `n` fields, added to `a`. -/
def qAt (X : S400x128.Idx → F .f32) (g r : Nat) : Nat → FVec F S16 .f32 → FVec F S16 .f32
  | 0, a => a
  | n + 1, a => addf (addf (addf (addf (qAt X g r n a) (sq (xv X g n r))) (sq (xv X g n (r + 4)))) (sq (xv X g n (r + 8)))) (sq (xv X g n (r + 12)))

/-- The zero vector. -/
def zv : FVec F S16 .f32 := broadcast S16 (Scalar.ofBits .f32 0x00000000#32)

/-- Words `o …` of the accumulators. -/
def accRow (A : S2176.Idx → F .f32) (o : Nat) : FVec F S16 .f32 := fun l => A (pAcc (o + (l 0).val))

/-- What a segment starts from: zero in the first one, the accumulators in the others. -/
def start (b : BitVec 1) (A : S2176.Idx → F .f32) (o : Nat) : FVec F S16 .f32 := Scalar.select b zv (accRow A o)

/-- The sum of entry `t` that a segment leaves for group `g`. -/
def accS (b : BitVec 1) (X : S400x128.Idx → F .f32) (A : S2176.Idx → F .f32) (g t : Nat) : FVec F S16 .f32 :=
  sAt X g t 25 (start b A (272 * g + 16 * t))

/-- The sum of squares that a segment leaves for group `g`. -/
def accQ (b : BitVec 1) (X : S400x128.Idx → F .f32) (A : S2176.Idx → F .f32) (g : Nat) : FVec F S16 .f32 :=
  addf (addf (qAt X g 0 25 (start b A (272 * g + 256))) (qAt X g 1 25 zv)) (addf (qAt X g 2 25 zv) (qAt X g 3 25 zv))

/-- Row `r` of group `g`'s accumulators after a segment: the sums of the 16 entries, then the sum of squares. -/
def accR (b : BitVec 1) (X : S400x128.Idx → F .f32) (A : S2176.Idx → F .f32) (g r : Nat) : FVec F S16 .f32 :=
  if r < 16 then accS b X A g r else accQ b X A g

/-- The accumulators after a segment. -/
def segAcc (b : BitVec 1) (X : S400x128.Idx → F .f32) (A : S2176.Idx → F .f32) : S2176.Idx → F .f32 :=
  fun y => accR b X A ((y 0).val / 272) ((y 0).val % 272 / 16) (p16 ((y 0).val % 16))

/-- The accumulators with the first `n` words done. -/
def mixW (b : BitVec 1) (X : S400x128.Idx → F .f32) (A : S2176.Idx → F .f32) (n : Nat) : S2176.Idx → F .f32 :=
  fun y => if (y 0).val < n then segAcc b X A y else A y

/-- Half of the squared sums' sum less the sum of squares, from a group's 17 rows. -/
def finish (s : Nat → FVec F S16 .f32) (q : FVec F S16 .f32) : FVec F S16 .f32 :=
  k0_pay72 (s 8) (s 9) (s 10) (s 11) (s 12) (s 13) (s 14) (s 15) q (k0_pay70 (s 0) (s 1) (s 2) (s 3) (s 4) (s 5) (s 6)) (k0_pay71 (s 7))

/-- The 16 results a segment writes for group `g`. -/
def outG (b : BitVec 1) (X : S400x128.Idx → F .f32) (A : S2176.Idx → F .f32) (g : Nat) : FVec F S16 .f32 :=
  finish (accS b X A g) (accQ b X A g)

/-- The 128 results a segment writes. -/
def outSeg (b : BitVec 1) (X : S400x128.Idx → F .f32) (A : S2176.Idx → F .f32) : S128.Idx → F .f32 :=
  fun y => outG b X A ((y 0).val / 16) (p16 ((y 0).val % 16))

/-! ## Reading and writing the accumulators -/

theorem pAcc_val (y : Nat) (h : y < 2176) : (pAcc y 0).val = y := Nat.mod_eq_of_lt h
theorem pAcc_eq (y : S2176.Idx) : pAcc (y 0).val = y := by
  have h : (y 0).val < 2176 := (y 0).isLt
  rw [eq_ix1 y]; exact congrArg ix1 (Fin.ext (Nat.mod_eq_of_lt h))

/-- A load of 16 accumulator words. -/
theorem load_acc (f : S2176.Idx → F .f32) (off : Fin 1 → Nat) (o : Nat) (e : off = ![o]) (h : ∀ a, off a + S16.size a ≤ S2176.size a) :
    View.readAt (Elt F) (aV).view (Rect.unit (s := S2176) off S16.size h).toLoadRect f = accRow f o := by
  subst e
  funext l
  have h0 : o + 16 ≤ 2176 := h 0
  have hl : (l 0).val < 16 := (l 0).isLt
  show f _ = f _
  refine congrArg f (funext fun a => ?_)
  match a with
  | ⟨0, _⟩ => exact Fin.ext (show o + 1 * (l 0).val = (o + (l 0).val) % 2176 by omega)

/-- A store of 16 accumulator words. -/
theorem store_acc (f : S2176.Idx → F .f32) (w : S16.Idx → F .f32) (off : Fin 1 → Nat) (o : Nat) (e : off = ![o]) (h : ∀ a, off a + S16.size a ≤ S2176.size a) :
    View.write (Elt F) ((aV).access (Rect.unit (s := S2176) off S16.size h)) f w Finset.univ
      = fun y => if o ≤ (y 0).val ∧ (y 0).val < o + 16 then w (p16 ((y 0).val - o)) else f y := by
  subst e
  funext y
  have h0 : o + 16 ≤ 2176 := h 0
  have hy : (y 0).val < 2176 := (y 0).isLt
  split
  · rename_i hc
    have ey : y = ((aV).access (Rect.unit (s := S2176) ![o] S16.size h)).emb (p16 ((y 0).val - o)) := by
      funext a
      match a with
      | ⟨0, _⟩ => exact Fin.ext (show (y 0).val = o + 1 * (((y 0).val - o) % 16) by omega)
    conv_lhs => rw [ey]
    rw [View.write_emb_of_mem _ _ (Finset.mem_univ _)]; rfl
  · rename_i hc
    refine View.write_of_not_mem _ _ _ fun hm => hc ?_
    obtain ⟨x, -, ex⟩ := Finset.mem_map.mp hm
    have hx : (x 0).val < 16 := (x 0).isLt
    have : (y 0).val = o + 1 * (x 0).val := by rw [← ex]; rfl
    omega

/-- Storing row `r` of group `g` moves the finished words on by 16. -/
theorem store_row (b : BitVec 1) (X : S400x128.Idx → F .f32) (A : S2176.Idx → F .f32) (g r : Nat) (hr : r < 17) (w : FVec F S16 .f32)
    (hw : w = accR b X A g r) (off : Fin 1 → Nat) (e : off = ![272 * g + 16 * r]) (h : ∀ a, off a + S16.size a ≤ S2176.size a) :
    View.write (Elt F) ((aV).access (Rect.unit (s := S2176) off S16.size h)) (mixW b X A (272 * g + 16 * r)) w Finset.univ
      = mixW b X A (272 * g + 16 * (r + 1)) := by
  subst hw
  rw [store_acc _ _ off _ e h]
  funext y
  have hy : (y 0).val < 2176 := (y 0).isLt
  by_cases h1 : 272 * g + 16 * r ≤ (y 0).val ∧ (y 0).val < 272 * g + 16 * r + 16
  · rw [if_pos h1]
    have e1 : (y 0).val / 272 = g := by omega
    have e2 : (y 0).val % 272 / 16 = r := by omega
    have e3 : (y 0).val % 16 = (y 0).val - (272 * g + 16 * r) := by omega
    simp only [mixW, segAcc, e1, e2, e3]
    rw [if_pos (by omega)]
  · rw [if_neg h1]
    simp only [mixW]
    by_cases h2 : (y 0).val < 272 * g + 16 * r
    · rw [if_pos h2, if_pos (by omega)]
    · rw [if_neg h2, if_neg (by omega)]

/-- A row that is not done yet reads as the accumulators before. -/
theorem accRow_mixW (b : BitVec 1) (X : S400x128.Idx → F .f32) (A : S2176.Idx → F .f32) (n o : Nat) (h : n ≤ o) (ho : o + 16 ≤ 2176) :
    accRow (mixW b X A n) o = accRow A o := by
  funext l
  have hl : (l 0).val < 16 := (l 0).isLt
  simp only [accRow, mixW]
  rw [if_neg (by rw [pAcc_val _ (by omega)]; omega)]

/-- With all words done, the accumulators are the segment's. -/
theorem mixW_all (b : BitVec 1) (X : S400x128.Idx → F .f32) (A : S2176.Idx → F .f32) : mixW b X A 2176 = segAcc b X A :=
  funext fun y => if_pos (y 0).isLt

/-- With none done, they are the accumulators before. -/
theorem mixW_none (b : BitVec 1) (X : S400x128.Idx → F .f32) (A : S2176.Idx → F .f32) : mixW b X A 0 = A :=
  funext fun _ => if_neg (Nat.not_lt_zero _)

/-- A store of 16 results, read through the output slot. -/
theorem store_stage (off : Fin 1 → Nat) (hoff) (f : (wV).view.ty.Contents (Elt F)) (w : S16.Idx → F .f32) (o1 : Fin 1 → Nat) (o : Nat) (e : o1 = ![o])
    (h : ∀ a, o1 a + S16.size a ≤ S128.size a) (y : S128.Idx) :
    (stageAt off hoff).view.read (Elt F) (View.write (Elt F) ((stageAt off hoff).access (Rect.unit (s := S128) o1 S16.size h)) f w Finset.univ) y
      = if o ≤ (y 0).val ∧ (y 0).val < o + 16 then w (p16 ((y 0).val - o)) else (stageAt off hoff).view.read (Elt F) f y := by
  subst e
  have h0 : o + 16 ≤ 128 := h 0
  have hy : (y 0).val < 128 := (y 0).isLt
  split
  · rename_i hc
    have ey : y = (Rect.unit (s := S128) ![o] S16.size h).idx (p16 ((y 0).val - o)) := by
      funext a
      match a with
      | ⟨0, _⟩ => exact Fin.ext (show (y 0).val = o + 1 * (((y 0).val - o) % 16) by omega)
    have e2 : (stageAt off hoff).view.emb y = ((stageAt off hoff).access (Rect.unit (s := S128) ![o] S16.size h)).emb (p16 ((y 0).val - o)) := congrArg _ ey
    refine (congrArg (View.write (Elt F) ((stageAt off hoff).access (Rect.unit (s := S128) ![o] S16.size h)) f w Finset.univ) e2).trans ?_
    rw [View.write_emb_of_mem _ _ (Finset.mem_univ _)]; rfl
  · rename_i hc
    refine View.write_of_not_mem _ _ _ fun hm => hc ?_
    obtain ⟨x, -, ex⟩ := Finset.mem_map.mp hm
    have hx : (x 0).val < 16 := (x 0).isLt
    have e3 : (Rect.unit (s := S128) ![o] S16.size h).idx x = y := (stageAt off hoff).view.emb.injective ex
    have : (y 0).val = o + 1 * (x 0).val := by rw [← e3]; rfl
    omega

/-- A load of one row of 16 from a slot. -/
theorem load_row (f : (bV).view.ty.Contents (Elt F)) (o3 : Fin 3 → Nat) (h3) (X : S400x128.Idx → F .f32) (hX : (slotAt o3 h3).view.read (Elt F) f = X)
    (g j t : Nat) (off : Fin 2 → Nat) (e : off = ![16 * j + t, 16 * g]) (h : ∀ a, off a + S1x16.size a ≤ S400x128.size a) :
    shapeCast S16 (View.readAt (Elt F) (slotAt o3 h3).view (Rect.unit (s := S400x128) off S1x16.size h).toLoadRect f) shapeCasts_S1x16_S16 = xv X g j t := by
  subst e hX
  funext l
  have h0 : 16 * j + t + 1 ≤ 400 := h 0
  have h1 : 16 * g + 16 ≤ 128 := h 1
  have hl : (l 0).val < 16 := (l 0).isLt
  refine (shapeCast_apply (s := S1x16) (t := S16) _ _ l (ix2 0 (l 0)) (by rw [Shape.rowMajor_val_two, Shape.rowMajor_val_one]; simp)).trans ?_
  show View.read (Elt F) (slotAt o3 h3).view f ((Rect.unit (s := S400x128) ![16 * j + t, 16 * g] S1x16.size h).idx (ix2 0 (l 0)))
    = View.read (Elt F) (slotAt o3 h3).view f (pBlk (16 * j + t) (16 * g + (l 0).val))
  refine congrArg (View.read (Elt F) (slotAt o3 h3).view f) (funext fun a => ?_)
  match a with
  | ⟨0, _⟩ => exact Fin.ext (show 16 * j + t + 1 * 0 = (16 * j + t) % 400 by omega)
  | ⟨1, _⟩ => exact Fin.ext (show 16 * g + 1 * (l 0).val = (16 * g + (l 0).val) % 128 by omega)

end Cert.Proof

end
-- ==== Proof.TileDma.lean ====
/-
  One vector subcore's transfers, over any float values: a segment's block of the field table into an input slot and its
  arrival, the results out of the output slot and their departure.
-/
module

public import proofs.«01_k».proof.Proof.TileMath

@[expose] public section

set_option maxRecDepth 16384

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

/-! ## Segments coming in -/

/-- Rows `400 k …` of block `b`'s columns, off the field table `xf`. -/
abbrev seg (xf : S1600x16384.Idx → F .f32) (b : Fin 32) (k : Fin 4) : S400x128.Idx → F .f32 := (srcM b k).view.read (Elt F) xf

/-- Slot `p` holds `X`. -/
def slotFull (p : Fin 2) (X : S400x128.Idx → F .f32) : sProp 𝕄 :=
  iprop(∃ f, ⌜(slotM p).view.read (Elt F) f = X⌝ ∗ ((slotM p).view.loc (thr d L)) ↦[(slotM p).view.set]{fullShare} f)

/-- Slot `p` holds something. -/
def slotFree (p : Fin 2) : sProp 𝕄 :=
  iprop(∃ f : Buf (Elt F) ((slotM p).view.loc (thr d L)), ((slotM p).view.loc (thr d L)) ↦[(slotM p).view.set]{fullShare} f)

/-- A read share of the field table. -/
def tab (q : PosShare TreeShare) (xf : S1600x16384.Idx → F .f32) : sProp 𝕄 :=
  iprop(((xV).view.loc (thr d L)) ↦{q} (show Buf (Elt F) ((xV).view.loc (thr d L)) from xf))

/-- Slot `p` idle: its contents, a read share of the table, its semaphore at zero. -/
def idleI (q : Fin 2 → PosShare TreeShare) (xf : S1600x16384.Idx → F .f32) (p : Fin 2) : sProp 𝕄 :=
  iprop(slotFree d L p ∗ tab d L (q p) xf ∗ semVal (cellI d L p) 0)

/-- Slot `p` loaded: it holds segment `k`. -/
def readyI (q : Fin 2 → PosShare TreeShare) (xf : S1600x16384.Idx → F .f32) (p : Fin 2) (k : Fin 4) : sProp 𝕄 :=
  iprop(slotFull d L p (seg xf (blk L) k) ∗ tab d L (q p) xf ∗ semVal (cellI d L p) 0)

/-- Segment `k` on its way into slot `p`. -/
def flyI (q : Fin 2 → PosShare TreeShare) (xf : S1600x16384.Idx → F .f32) (p : Fin 2) (k : Fin 4) : sProp 𝕄 :=
  iprop(Transfers.Flight countersEmb (thr d L) (.dma (semI p)) (default : HIx 1) ((slotM p).view.amount (.dma (semI p)))
      iprop(slotFull d L p (seg xf (blk L) k)
        ∗ ((srcM (blk L) k).view.loc (thr d L)) ↦[(srcM (blk L) k).view.set]{q p} (show Buf (Elt F) ((srcM (blk L) k).view.loc (thr d L)) from xf))
    ∗ ((xV).view.loc (thr d L)) ↦[Finset.univ \ (srcM (blk L) k).view.set]{q p} (show Buf (Elt F) ((xV).view.loc (thr d L)) from xf))

theorem ready_idle (q : Fin 2 → PosShare TreeShare) (xf : S1600x16384.Idx → F .f32) (p : Fin 2) (k : Fin 4) :
    readyI d L q xf p k ⊢ (idleI d L q xf p : sProp 𝕄) := by
  unfold readyI idleI slotFull slotFree
  iintro ⟨⟨%f, -, Hf⟩, Ht, Hs⟩
  iframe
  iexists f; iexact Hf

/-- Starting a segment's transfer. -/
theorem wp_fetch (q : Fin 2 → PosShare TreeShare) (xf : S1600x16384.Idx → F .f32) (p : Fin 2) (k : Fin 4)
    {src : Memref sig .scVector .hbm S400x128 .f32} {dst : Memref sig .scVector .vmem S400x128 .f32} {sm : DmaSem sig}
    (hs : src = srcM (blk L) k) (hd : dst = slotM p) (hm : sm = semI p) {h1 h2 h3} {α : Type}
    {kont : PUnit → Prog (TpuEff nD τ sig (Elt F) Λ₀ (thr d L).2) α} {Q : α → sProp 𝕄} :
    idleI d L q xf p ⊢ iprop((flyI d L q xf p k -∗ wp frame (wpE (defs₀ (F := F)) 𝒱₀ (thr d L) none) Set.univ (kont ⟨⟩) Q)
      -∗ wp frame (wpE (defs₀ (F := F)) 𝒱₀ (thr d L) none) Set.univ
          (.op (.enqueueDma (p := (thr d L).2) src (.here dst) (.dma sm) h1 h2 h3) kont) Q) := by
  subst hs hd hm
  unfold idleI slotFree tab
  refine (sep_mono .rfl (sep_mono (pointsTo_split_subset (ℓ := (xV).view.loc (thr d L)) (q := q p) (Finset.subset_univ (srcM (blk L) k).view.set)).1 .rfl)).trans ?_
  iintro ⟨⟨%f, Hf⟩, ⟨Hs, Hr⟩, Hv⟩ Hk
  iapply (Transfers.wp_dmaLocal countersEmb 𝒱₀ (thr d L) none (Sd := (slotM p).view.set) (default : HIx 1) ((slotM p).view.amount (.dma (semI p))) rfl
    (View.amount_pos _ _ (show 0 < S400x128.numel by decide)) (Finset.Subset.refl _)) $$ [Hs Hf Hv]
  · iframe
  iintro HF
  iapply Hk
  unfold flyI
  iframe Hr
  iapply (Transfers.Flight_mono countersEmb (thr d L) ?_) $$ HF
  refine sep_mono ?_ .rfl
  unfold slotFull
  iintro H
  iexists _
  iframe H
  ipureintro
  exact View.read_write_univ _ _

/-- Waiting for a segment's transfer. -/
theorem wp_await (q : Fin 2 → PosShare TreeShare) (xf : S1600x16384.Idx → F .f32) (p : Fin 2) (k : Fin 4)
    {src : Memref sig .scVector .hbm S400x128 .f32} {dst : Memref sig .scVector .vmem S400x128 .f32} {sm : DmaSem sig}
    (hd : dst = slotM p) (hm : sm = semI p) {h1 h2} {α : Type} {O : CellTallies nD τ sig (HIx 1)} {W : Waits sig (HIx 1)}
    {kont : PUnit → Prog (TpuEff nD τ sig (Elt F) Λ₀ (thr d L).2) α} {Q : α → sProp 𝕄} :
    iprop(flyI d L q xf p k ∗ owes (thr d L) O W ∗ Transfers.MayWaits (thr d L) (default : HIx 1) O)
      ⊢ iprop((iprop(readyI d L q xf p k ∗ owes (thr d L) O (insert (SemLoc.dma (semI p), default) W))
          -∗ wp frame (wpE (defs₀ (F := F)) 𝒱₀ (thr d L) none) Set.univ (kont ⟨⟩) Q)
        -∗ wp frame (wpE (defs₀ (F := F)) 𝒱₀ (thr d L) none) Set.univ
            (.op (.waitDma2 (p := (thr d L).2) sm src dst h1 h2) kont) Q) := by
  subst hd hm
  unfold flyI
  iintro ⟨⟨HF, Hr⟩, HO, #Hmw⟩ Hk
  ihave Hm := (Transfers.MayWaits.elim (SemLoc.dma (semI p))) $$ Hmw
  iapply (Transfers.wp_waitLocalO countersEmb 𝒱₀ (thr d L) none (default : HIx 1) (N := (slotM p).view.amount (.dma (semI p))) rfl) $$ [HF HO]
  · iframe
    iexact Hm
  iintro ⟨⟨Hs, Hx⟩, Hv, HO⟩
  iapply Hk
  iframe HO
  unfold readyI tab
  iframe Hs Hv
  iapply (pointsTo_split_subset (ℓ := (xV).view.loc (thr d L)) (q := q p) (Finset.subset_univ (srcM (blk L) k).view.set)).2
  iframe

/-! ## Results going out -/

/-- The output slot holds `w`. -/
def stageFull (w : S128.Idx → F .f32) : sProp 𝕄 :=
  iprop(∃ f, ⌜(stageM).view.read (Elt F) f = w⌝ ∗ ((stageM).view.loc (thr d L)) ↦[(stageM).view.set]{fullShare} f)

/-- The output slot holds something. -/
def stageFree : sProp 𝕄 :=
  iprop(∃ f : Buf (Elt F) ((stageM).view.loc (thr d L)), ((stageM).view.loc (thr d L)) ↦[(stageM).view.set]{fullShare} f)

/-- Block `b` of the result holds `w`. -/
def dstFull (w : S128.Idx → F .f32) : sProp 𝕄 :=
  iprop(∃ f, ⌜(dstM (blk L)).view.read (Elt F) f = w⌝ ∗ ((dstM (blk L)).view.loc (thr d L)) ↦[(dstM (blk L)).view.set]{fullShare} f)

/-- Block `b` of the result holds something. -/
def dstFree : sProp 𝕄 :=
  iprop(∃ f : Buf (Elt F) ((dstM (blk L)).view.loc (thr d L)), ((dstM (blk L)).view.loc (thr d L)) ↦[(dstM (blk L)).view.set]{fullShare} f)

/-- The results `w` on their way out. -/
def flyO (w : S128.Idx → F .f32) : sProp 𝕄 :=
  Transfers.Flight countersEmb (thr d L) (.dma (semO 0)) (default : HIx 1) ((dstM (blk L)).view.amount (.dma (semO 0)))
    iprop(dstFull d L w ∗ stageFree d L)

/-- Starting the results' transfer. -/
theorem wp_send (w : S128.Idx → F .f32)
    {src : Memref sig .scVector .vmem S128 .f32} {dst : Memref sig .scVector .hbm S128 .f32} {sm : DmaSem sig}
    (hs : src = stageM) (hd : dst = dstM (blk L)) (hm : sm = semO 0) {h1 h2 h3} {α : Type}
    {kont : PUnit → Prog (TpuEff nD τ sig (Elt F) Λ₀ (thr d L).2) α} {Q : α → sProp 𝕄} :
    iprop(stageFull d L w ∗ dstFree d L ∗ semVal (cellO d L 0) 0)
      ⊢ iprop((flyO d L w -∗ wp frame (wpE (defs₀ (F := F)) 𝒱₀ (thr d L) none) Set.univ (kont ⟨⟩) Q)
      -∗ wp frame (wpE (defs₀ (F := F)) 𝒱₀ (thr d L) none) Set.univ
          (.op (.enqueueDma (p := (thr d L).2) src (.here dst) (.dma sm) h1 h2 h3) kont) Q) := by
  subst hs hd hm
  unfold stageFull dstFree
  iintro ⟨⟨%fs, %hw, Hs⟩, ⟨%f, Hf⟩, Hv⟩ Hk
  subst hw
  iapply (Transfers.wp_dmaLocal countersEmb 𝒱₀ (thr d L) none (Sd := (dstM (blk L)).view.set) (default : HIx 1) ((dstM (blk L)).view.amount (.dma (semO 0))) rfl
    (View.amount_pos _ _ (show 0 < S128.numel by decide)) (Finset.Subset.refl _)) $$ [Hs Hf Hv]
  · iframe
  iintro HF
  iapply Hk
  unfold flyO
  iapply (Transfers.Flight_mono countersEmb (thr d L) ?_) $$ HF
  unfold dstFull stageFree
  iintro ⟨H, Hs⟩
  isplitl [H]
  · iexists _
    iframe H
    ipureintro
    exact View.read_write_univ _ _
  · iexists _; iexact Hs

/-- Waiting for the results' transfer. -/
theorem wp_sent (w : S128.Idx → F .f32)
    {src : Memref sig .scVector .vmem S128 .f32} {dst : Memref sig .scVector .hbm S128 .f32} {sm : DmaSem sig}
    (hd : dst = dstM (blk L)) (hm : sm = semO 0) {h1 h2} {α : Type} {O : CellTallies nD τ sig (HIx 1)} {W : Waits sig (HIx 1)}
    {kont : PUnit → Prog (TpuEff nD τ sig (Elt F) Λ₀ (thr d L).2) α} {Q : α → sProp 𝕄} :
    iprop(flyO d L w ∗ owes (thr d L) O W ∗ Transfers.MayWaits (thr d L) (default : HIx 1) O)
      ⊢ iprop((iprop(dstFull d L w ∗ stageFree d L ∗ semVal (cellO d L 0) 0 ∗ owes (thr d L) O (insert (SemLoc.dma (semO 0), default) W))
          -∗ wp frame (wpE (defs₀ (F := F)) 𝒱₀ (thr d L) none) Set.univ (kont ⟨⟩) Q)
        -∗ wp frame (wpE (defs₀ (F := F)) 𝒱₀ (thr d L) none) Set.univ
            (.op (.waitDma2 (p := (thr d L).2) sm src dst h1 h2) kont) Q) := by
  subst hd hm
  unfold flyO
  iintro ⟨HF, HO, #Hmw⟩ Hk
  ihave Hm := (Transfers.MayWaits.elim (SemLoc.dma (semO 0))) $$ Hmw
  iapply (Transfers.wp_waitLocalO countersEmb 𝒱₀ (thr d L) none (default : HIx 1) (N := (dstM (blk L)).view.amount (.dma (semO 0))) rfl) $$ [HF HO]
  · iframe
    iexact Hm
  iintro ⟨⟨Hd, Hs⟩, Hv, HO⟩
  iapply Hk
  iframe

end Cert.Proof

end
-- ==== Proof.TileLoops.lean ====
/-
  One vector subcore's two inner loops, over any float values: a group's 25 fields, and a segment's eight groups.
-/
module

public import proofs.«01_k».proof.Proof.TileMath

@[expose] public section

set_option maxRecDepth 16384

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

/-! ## The 25 fields of one group -/

/-- The twenty running sums of a group. -/
abbrev Acc20 (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The running sums after `n` fields, from the sums `a` and the sums of squares `q`. -/
def acc20 (X : S400x128.Idx → F .f32) (g : Nat) (a q : Nat → FVec F S16 .f32) (n : Nat) : Acc20 F :=
  (sAt X g 0 n (a 0), sAt X g 1 n (a 1), sAt X g 2 n (a 2), sAt X g 3 n (a 3), sAt X g 4 n (a 4), sAt X g 5 n (a 5), sAt X g 6 n (a 6), sAt X g 7 n (a 7),
    sAt X g 8 n (a 8), sAt X g 9 n (a 9), sAt X g 10 n (a 10), sAt X g 11 n (a 11), sAt X g 12 n (a 12), sAt X g 13 n (a 13), sAt X g 14 n (a 14), sAt X g 15 n (a 15),
    qAt X g 0 n (q 0), qAt X g 1 n (q 1), qAt X g 2 n (q 2), qAt X g 3 n (q 3))

/-- One field's addition to a running sum, from the row it reads. -/
theorem sAt_step {X : S400x128.Idx → F .f32} {g t n : Nat} {r a : FVec F S16 .f32} (h : r = xv X g n t) : addf (sAt X g t n a) r = sAt X g t (n + 1) a := by
  subst h; rfl

/-- One field's additions to a running sum of squares, from the four rows it reads. -/
theorem qAt_step {X : S400x128.Idx → F .f32} {g r n : Nat} {r0 r1 r2 r3 a : FVec F S16 .f32} (h0 : r0 = xv X g n r) (h1 : r1 = xv X g n (r + 4)) (h2 : r2 = xv X g n (r + 8)) (h3 : r3 = xv X g n (r + 12)) :
    addf (addf (addf (addf (qAt X g r n a) (mulf r0 r0)) (mulf r1 r1)) (mulf r2 r2)) (mulf r3 r3) = qAt X g r (n + 1) a := by
  subst h0 h1 h2 h3; rfl

/-- Before field `k`: the running sums, and the slot. -/
def fieldsI (w7 : BitVec 32) (h2 : k0_chk2 w7) (X : S400x128.Idx → F .f32) (g : Nat) (a q : Nat → FVec F S16 .f32)
    (f : Buf (Elt F) ((slotAt (k0_off11 w7) (k0_off11_inb w7 h2)).view.loc (thr d L))) (k : Nat) (acc : Acc20 F) : sProp 𝕄 :=
  iprop(⌜acc = acc20 X g a q k⌝ ∗ (((slotAt (k0_off11 w7) (k0_off11_inb w7 h2)).view.loc (thr d L)) ↦[(slotAt (k0_off11 w7) (k0_off11_inb w7 h2)).view.set]{fullShare} f))

/-- One field adds its 16 rows and their squares. -/
theorem fields_step (w7 : BitVec 32) (h2 : k0_chk2 w7) (X : S400x128.Idx → F .f32) (a q : Nat → FVec F S16 .f32)
    (f : Buf (Elt F) ((slotAt (k0_off11 w7) (k0_off11_inb w7 h2)).view.loc (thr d L)))
    (hX : (slotAt (k0_off11 w7) (k0_off11_inb w7 h2)).view.read (Elt F) f = X)
    (v161 : BitVec 1) (g : Fin k0_t2_loop.trips) (v207 v208 : BitVec 32)
    (a0 a1 a2 a3 a4 a5 a6 a7 a8 a9 a10 a11 a12 a13 a14 a15 : FVec F S16 .f32) (c : BitVec 32)
    (k : Fin k0_t3_loop.trips) (acc : Acc20 F) :
    fieldsI d L w7 h2 X g a q f k acc ⊢ wp frame (wpE (defs₀ (F := F)) 𝒱₀ (thr d L) none) Set.univ
      (k0_t3_body L xV (Memref.isWhole_whole _) oV (Memref.isWhole_whole _) aV (Memref.isWhole_whole _) bV (Memref.isWhole_whole _) cc0_scoped1
        wV (Memref.isWhole_whole _) cc0_scoped3 w7 h2 v161 g v207 v208 a0 a1 a2 a3 a4 a5 a6 a7 a8 a9 a10 a11 a12 a13 a14 a15 c k acc)
      (fun acc' => fieldsI d L w7 h2 X g a q f (k + 1) acc') := by
  obtain ⟨b0, b1, b2, b3, b4, b5, b6, b7, b8, b9, b10, b11, b12, b13, b14, b15, b16, b17, b18, b19⟩ := acc
  have hl (t : Fin 16) := load_row f _ (k0_off11_inb w7 h2) X hX g k t (k0_off12 g k (BitVec.ofNat 32 t.val)) (k0_off12_eq g k t) (k0_off12_inb g k t)
  sl_unfold [k0_t3_body]
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, Prog.bind_assoc]
  unfold fieldsI
  iintro ⟨%he, H⟩
  simp only [acc20, Prod.mk.injEq] at he
  obtain ⟨rfl, rfl, rfl, rfl, rfl, rfl, rfl, rfl, rfl, rfl, rfl, rfl, rfl, rfl, rfl, rfl, rfl, rfl, rfl, rfl⟩ := he
  sl_exec
  sl_step
  iframe
  ipureintro
  simp only [acc20, Prod.mk.injEq]
  exact ⟨sAt_step (hl 0), sAt_step (hl 1), sAt_step (hl 2), sAt_step (hl 3), sAt_step (hl 4), sAt_step (hl 5), sAt_step (hl 6), sAt_step (hl 7),
    sAt_step (hl 8), sAt_step (hl 9), sAt_step (hl 10), sAt_step (hl 11), sAt_step (hl 12), sAt_step (hl 13), sAt_step (hl 14), sAt_step (hl 15),
    qAt_step (hl 0) (hl 4) (hl 8) (hl 12), qAt_step (hl 1) (hl 5) (hl 9) (hl 13), qAt_step (hl 2) (hl 6) (hl 10) (hl 14), qAt_step (hl 3) (hl 7) (hl 11) (hl 15)⟩

/-! ## The eight groups of a segment -/

/-- Before group `k`: the accumulators done so far, the slot, and the results written so far. -/
def groupsI (w7 : BitVec 32) (h2 : k0_chk2 w7) (off : Fin 1 → Nat) (hoff : ∀ a, off a + S128.size a ≤ S256.size a) (b : BitVec 1)
    (X : S400x128.Idx → F .f32) (A : S2176.Idx → F .f32)
    (f : Buf (Elt F) ((slotAt (k0_off11 w7) (k0_off11_inb w7 h2)).view.loc (thr d L))) (k : Nat) : sProp 𝕄 :=
  iprop(((aV).view.loc (thr d L) ↦{fullShare} mixW b X A (272 * k))
    ∗ (((slotAt (k0_off11 w7) (k0_off11_inb w7 h2)).view.loc (thr d L)) ↦[(slotAt (k0_off11 w7) (k0_off11_inb w7 h2)).view.set]{fullShare} f)
    ∗ ∃ fw, ⌜∀ y : S128.Idx, (y 0).val < 16 * k → (stageAt off hoff).view.read (Elt F) fw y = outSeg b X A y⌝
      ∗ ((stageAt off hoff).view.loc (thr d L)) ↦[(stageAt off hoff).view.set]{fullShare} fw)

theorem accR_lt (b : BitVec 1) (X : S400x128.Idx → F .f32) (A : S2176.Idx → F .f32) (g r : Nat) (h : r < 16) : accR b X A g r = accS b X A g r := if_pos h

/-- One more row's store after the earlier rows'. -/
theorem rows_cons {b : BitVec 1} {X : S400x128.Idx → F .f32} {A : S2176.Idx → F .f32} {g : Fin k0_t2_loop.trips} (r : Fin 17) {w : FVec F S16 .f32}
    (hw : w = accR b X A g r) {P : List (View.Piece (Elt F) S2176 EltTy.f32)} (h : (aV).view.writes (Elt F) (mixW b X A (272 * g.val)) P = mixW b X A (272 * g.val + 16 * r.val)) :
    (aV).view.writes (Elt F) (mixW b X A (272 * g.val)) (⟨Rect.unit (s := S2176) (k0_off10 g (BitVec.ofNat 32 (16 * r.val))) S16.size (k0_off10_inb g r), w⟩ :: P)
      = mixW b X A (272 * g.val + 16 * (r.val + 1)) := by
  rw [View.writes_cons, h]
  exact store_row b X A g r r.isLt w hw _ (k0_off10_eq g r) (k0_off10_inb g r)

/-- Ownership of a buffer follows an equation of its contents. -/
theorem pts_of_eq {ℓ : Loc nD τ sig} {I : Finset ℓ.ty.Idx} {q : PosShare TreeShare} {f f' : Buf (Elt F) ℓ} (h : f = f') : (ℓ ↦[I]{q} f : sProp 𝕄) ⊢ ℓ ↦[I]{q} f' := by
  subst h; exact .rfl

/-- One group. -/
theorem groups_step (w7 w8 w9 : BitVec 32) (h2 : k0_chk2 w7) (b : BitVec 1) (X : S400x128.Idx → F .f32) (A : S2176.Idx → F .f32)
    (f : Buf (Elt F) ((slotAt (k0_off11 w7) (k0_off11_inb w7 h2)).view.loc (thr d L)))
    (hX : (slotAt (k0_off11 w7) (k0_off11_inb w7 h2)).view.read (Elt F) f = X)
    (t1 : Fin k0_t1_loop.trips) (h4 : k0_chk4 L t1 w9) (h3 : k0_chk3 L t1 w8) (v94 v95 : BitVec 1) (v96 v97 v105 v106 v114 v115 v125 v126 v143 : BitVec 32) (v157 : BitVec 1)
    (g : Fin k0_t2_loop.trips) (u : Unit) :
    groupsI d L w7 h2 (k0_off13 w8) (k0_off13_inb L t1 w8 h3) b X A f g ⊢ wp frame (wpE (defs₀ (F := F)) 𝒱₀ (thr d L) none) Set.univ
      (k0_t2_body L xV (Memref.isWhole_whole _) oV (Memref.isWhole_whole _) aV (Memref.isWhole_whole _) bV (Memref.isWhole_whole _) cc0_scoped1
        wV (Memref.isWhole_whole _) cc0_scoped3 t1 w7 w8 w9 h4 h3 h2 v94 v95 v96 v97 v105 v106 v114 v115 v125 v126 v143 v157 b g u)
      (fun _ => groupsI d L w7 h2 (k0_off13 w8) (k0_off13_inb L t1 w8 h3) b X A f (g + 1)) := by
  have hg : g.val < 8 := g.isLt
  have hld (t : Fin 17) : View.readAt (Elt F) (aV).view (Rect.unit (s := S2176) (k0_off10 g (BitVec.ofNat 32 (16 * t.val))) S16.size (k0_off10_inb g t)).toLoadRect (mixW b X A (272 * g.val)) = accRow A (272 * g.val + 16 * t.val) :=
    (load_acc _ _ _ (k0_off10_eq g t) _).trans (accRow_mixW _ _ _ _ _ (by omega) (by have := t.isLt; omega))
  sl_unfold [k0_t2_body]
  simp only [k0_part5_eq_skeleton, k0_part6_eq_skeleton, k0_part7_eq_skeleton, k0_part8_eq_skeleton]
  unfold k0_part5_skel k0_part6_skel k0_part7_skel k0_part8_skel
  simp only [Prog.lift, Prog.bind_op, Prog.bind_ret, Prog.pure_eq_ret, Prog.bind_assoc]
  unfold groupsI
  iintro ⟨HA, HB, %fw, %hw, HW⟩
  sl_exec
  sl_for (fieldsI d L w7 h2 X g (fun t => start b A (272 * g.val + 16 * t)) (fun r => if r = 0 then start b A (272 * g.val + 256) else zv) f) $$ [HB]
  · intro k acc
    exact fields_step d L w7 h2 X _ _ f hX b g _ _ _ _ _ _ _ _ _ _ _ _ _ _ _ _ _ _ _ k acc
  · unfold fieldsI
    iframe
    ipureintro
    simp only [acc20, Prod.mk.injEq]
    exact ⟨congrArg (Scalar.select b zv) (hld 0), congrArg (Scalar.select b zv) (hld 1), congrArg (Scalar.select b zv) (hld 2), congrArg (Scalar.select b zv) (hld 3),
      congrArg (Scalar.select b zv) (hld 4), congrArg (Scalar.select b zv) (hld 5), congrArg (Scalar.select b zv) (hld 6), congrArg (Scalar.select b zv) (hld 7),
      congrArg (Scalar.select b zv) (hld 8), congrArg (Scalar.select b zv) (hld 9), congrArg (Scalar.select b zv) (hld 10), congrArg (Scalar.select b zv) (hld 11),
      congrArg (Scalar.select b zv) (hld 12), congrArg (Scalar.select b zv) (hld 13), congrArg (Scalar.select b zv) (hld 14), congrArg (Scalar.select b zv) (hld 15),
      congrArg (Scalar.select b zv) (hld 16), rfl, rfl, rfl⟩
  iintro %acc HI
  obtain ⟨s0, s1, s2, s3, s4, s5, s6, s7, s8, s9, s10, s11, s12, s13, s14, s15, q0, q1, q2, q3⟩ := acc
  unfold fieldsI
  icases HI with ⟨%he, HB⟩
  simp only [acc20, Prod.mk.injEq] at he
  obtain ⟨e0, e1, e2, e3, e4, e5, e6, e7, e8, e9, e10, e11, e12, e13, e14, e15, eq0, eq1, eq2, eq3⟩ := he
  have hq : k0_pay69 q0 q1 q2 q3 = accR b X A g 16 := by subst eq0 eq1 eq2 eq3; rfl
  have hout : k0_pay72 s8 s9 s10 s11 s12 s13 s14 s15 (k0_pay69 q0 q1 q2 q3) (k0_pay70 s0 s1 s2 s3 s4 s5 s6) (k0_pay71 s7) = outG b X A g := by
    subst eq0 eq1 eq2 eq3 e0 e1 e2 e3 e4 e5 e6 e7 e8 e9 e10 e11 e12 e13 e14 e15; rfl
  have hst (r : Fin 17) {w : FVec F S16 .f32} (hr : r.val < 16) (hw : w = accS b X A g r) := hw.trans (accR_lt b X A g r hr).symm
  sl_exec
  sl_step
  isplitl [HA]
  · iapply (pts_of_eq (rows_cons 16 hq <| rows_cons 15 (hst 15 (by decide) e15) <| rows_cons 14 (hst 14 (by decide) e14) <| rows_cons 13 (hst 13 (by decide) e13)
      <| rows_cons 12 (hst 12 (by decide) e12) <| rows_cons 11 (hst 11 (by decide) e11) <| rows_cons 10 (hst 10 (by decide) e10) <| rows_cons 9 (hst 9 (by decide) e9)
      <| rows_cons 8 (hst 8 (by decide) e8) <| rows_cons 7 (hst 7 (by decide) e7) <| rows_cons 6 (hst 6 (by decide) e6) <| rows_cons 5 (hst 5 (by decide) e5)
      <| rows_cons 4 (hst 4 (by decide) e4) <| rows_cons 3 (hst 3 (by decide) e3) <| rows_cons 2 (hst 2 (by decide) e2) <| rows_cons 1 (hst 1 (by decide) e1)
      <| rows_cons 0 (hst 0 (by decide) e0) rfl)) $$ HA
  iframe HB
  iexists _
  iframe HW
  ipureintro
  intro y hy
  rw [View.writes_singleton]
  refine (store_stage (k0_off13 w8) (k0_off13_inb L t1 w8 h3) fw _ (k0_off14 g) (16 * g.val) (k0_off14_eq g) (k0_off14_inb g) y).trans ?_
  split
  · rename_i hc
    refine (congrFun hout _).trans ?_
    show _ = outG b X A ((y 0).val / 16) (p16 ((y 0).val % 16))
    rw [show (y 0).val / 16 = g.val by omega, show (y 0).val % 16 = (y 0).val - 16 * g.val by omega]
  · exact hw y (by omega)

end Cert.Proof

end
-- ==== Proof.TileTrip.lean ====
/-
  One vector subcore's four segments, over any float values: the next segment is fetched while one is summed, and the
  last one's results are sent out.
-/
module

public import proofs.«01_k».proof.Proof.TileDma
public import proofs.«01_k».proof.Proof.TileLoops

@[expose] public section

set_option maxRecDepth 16384

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The numbers the loop carries -/

/-- What the loop carries before trip `k`: the count of segments fetched, of segments summed, of result blocks sent, … -/
abbrev a6 (k : Nat) : BitVec 32 := BitVec.ofNat 32 (min (k + 1) 4)
abbrev a7 (k : Nat) : BitVec 32 := BitVec.ofNat 32 k
abbrev a8 (k : Nat) : BitVec 32 := BitVec.ofNat 32 (k / 4)
abbrev a11 (k : Nat) : BitVec 32 := BitVec.ofNat 32 (k % 4)

/-- Segment 0 starts from zero. -/
def flag (k : Nat) : BitVec 1 := if k = 0 then 1#1 else 0#1

theorem chk1_ok : ∀ (L : grid0.Coords) (k : Fin k0_t1_loop.trips), k0_chk1 L k (a6 k) (a7 k) (a11 k) := by decide +kernel
theorem chk2_ok : ∀ (k : Fin k0_t1_loop.trips), k0_chk2 (a7 k) := by decide +kernel
theorem chk3_ok : ∀ (L : grid0.Coords) (k : Fin k0_t1_loop.trips), k0_chk3 L k (a8 k) := by decide +kernel
theorem chk4_ok : ∀ (L : grid0.Coords) (k : Fin k0_t1_loop.trips), k0_chk4 L k 0#32 := by decide +kernel
theorem cond1_yes : ∀ (L : grid0.Coords) (k : Fin k0_t1_loop.trips), k.val < 3 → k0_cond1 L k (a11 k) = 1#1 := by decide +kernel
theorem cond1_no : ∀ (L : grid0.Coords) (k : Fin k0_t1_loop.trips), ¬ k.val < 3 → ¬ k0_cond1 L k (a11 k) = 1#1 := by decide +kernel
theorem cond2_yes : ∀ (L : grid0.Coords) (k : Fin k0_t1_loop.trips), k0_cond2 L k (a11 k) = 1#1 := by decide +kernel
theorem cond5_no : ∀ (L : grid0.Coords) (k : Fin k0_t1_loop.trips), k.val < 3 → ¬ k0_cond5 L k = 1#1 := by decide +kernel
theorem cond5_yes : ∀ (L : grid0.Coords) (k : Fin k0_t1_loop.trips), ¬ k.val < 3 → k0_cond5 L k = 1#1 := by decide +kernel
theorem cond7_no : ∀ (L : grid0.Coords) (k : Fin k0_t1_loop.trips), ¬ k0_cond7 L k = 1#1 := by decide +kernel
theorem off4_eq : ∀ (k : Fin k0_t1_loop.trips), k.val < 3 → k0_off4 (a6 k) = ![(k.val + 1) % 2, 0, 0] := by decide +kernel
theorem off5_eq : ∀ (L : grid0.Coords) (k : Fin k0_t1_loop.trips), k.val < 3 → k0_off5 L (a11 k) = ![400 * (k.val + 1), 12288 + 128 * (blk L).val] := by decide +kernel
theorem off6_eq : ∀ (k : Fin k0_t1_loop.trips), k.val < 3 → k0_off6 (a6 k) = ![(k.val + 1) % 2] := by decide +kernel
theorem off7_eq : ∀ (k : Fin k0_t1_loop.trips), k0_off7 (a7 k) = ![k.val % 2, 0, 0] := by decide +kernel
theorem off9_eq : ∀ (k : Fin k0_t1_loop.trips), k0_off9 (a7 k) = ![k.val % 2] := by decide +kernel
theorem off11_eq : ∀ (k : Fin k0_t1_loop.trips), k0_off11 (a7 k) = ![k.val % 2, 0, 0] := by decide +kernel
theorem off13_eq : ∀ (k : Fin k0_t1_loop.trips), k0_off13 (a8 k) = ![0] := by decide +kernel
theorem off15_eq : ∀ (k : Fin k0_t1_loop.trips), k0_off15 (a8 k) = ![0] := by decide +kernel
theorem off17_eq : ∀ (k : Fin k0_t1_loop.trips), k0_off17 (a8 k) = ![0] := by decide +kernel
theorem off16_eq : ∀ (L : grid0.Coords), k0_off16 L = ![128 * (blk L).val] := by decide +kernel
theorem off2_eq : ∀ (L : grid0.Coords), k0_off2 L = ![400 * 0, 12288 + 128 * (blk L).val] := by decide +kernel
theorem off22_eq : ∀ (L : grid0.Coords), k0_off22 L = ![128 * (blk L).val] := by decide +kernel
theorem chk5_ok : k0_chk5 0#32 := by decide +kernel
theorem off23_eq : k0_off23 0#32 = ![0] := by decide +kernel
theorem flag_eq : ∀ (k : Fin k0_t1_loop.trips), Scalar.cmpi .eq (Scalar.addi (a11 k) 0#32) 0#32 = flag k := by decide +kernel

variable (d : Dev nD) (L : grid0.Coords)

/-! ## The values by segment -/

/-- Segment `k` of block `b`'s columns. -/
def segN (xf : S1600x16384.Idx → F .f32) (b : Fin 32) (k : Nat) : S400x128.Idx → F .f32 := seg xf b ⟨k % 4, Nat.mod_lt _ (by decide)⟩

/-- The accumulators after `k` segments, from contents `A` that do not matter. -/
def accAt (xf : S1600x16384.Idx → F .f32) (b : Fin 32) (A : S2176.Idx → F .f32) : Nat → S2176.Idx → F .f32
  | 0 => A
  | k + 1 => segAcc (flag k) (segN xf b k) (accAt xf b A k)

/-- The results of block `b`'s columns: what the last segment writes. -/
def outAt (xf : S1600x16384.Idx → F .f32) (b : Fin 32) (A : S2176.Idx → F .f32) : S128.Idx → F .f32 :=
  outSeg (flag 3) (segN xf b 3) (accAt xf b A 3)

/-! ## The loop over segments -/

abbrev par (k : Nat) : Fin 2 := ⟨k % 2, Nat.mod_lt _ (by decide)⟩
abbrev sg (k : Nat) : Fin 4 := ⟨k % 4, Nat.mod_lt _ (by decide)⟩

abbrev Args : Type := BitVec 32 × BitVec 32 × BitVec 32 × BitVec 32 × BitVec 32 × BitVec 32

/-- The waits so far are the earlier ones and the tile's own. -/
def owesI (O : CellTallies nD τ sig (HIx 1)) (W : Waits sig (HIx 1)) : sProp 𝕄 :=
  iprop(∃ W', ⌜∀ p ∈ W', p ∈ W ∨ p.2 = none⌝ ∗ owes (thr d L) O W')

/-- Before segment `k`: the numbers carried; the segment on its way and the other slot idle; the accumulators; the output slot and the block. -/
def segsI (q : Fin 2 → PosShare TreeShare) (xf : S1600x16384.Idx → F .f32) (A : S2176.Idx → F .f32)
    (O : CellTallies nD τ sig (HIx 1)) (W : Waits sig (HIx 1)) (k : Nat) (acc : Args) : sProp 𝕄 :=
  iprop(⌜acc = (a6 k, a7 k, a8 k, 0#32, 0#32, a11 k)⌝
    ∗ (if k < 4 then flyI d L q xf (par k) (sg k) else idleI d L q xf (par k)) ∗ idleI d L q xf (par (k + 1))
    ∗ ((aV).view.loc (thr d L) ↦{fullShare} accAt xf (blk L) A k)
    ∗ (if k < 4 then iprop(stageFree d L ∗ dstFree d L ∗ semVal (cellO d L 0) 0) else flyO d L (outAt xf (blk L) A))
    ∗ owesI d L O W)

/-- The full slot, spelt otherwise. -/
theorem slotFull_at (p : Fin 2) (X : S400x128.Idx → F .f32) {m : Memref sig .scVector .vmem S400x128 .f32} (hm : m = slotM p) :
    slotFull d L p X ⊢ (iprop(∃ f, ⌜m.view.read (Elt F) f = X⌝ ∗ (m.view.loc (thr d L)) ↦[m.view.set]{fullShare} f) : sProp 𝕄) := by
  subst hm; exact .rfl
theorem slotFull_of (p : Fin 2) (X : S400x128.Idx → F .f32) {m : Memref sig .scVector .vmem S400x128 .f32} (hm : m = slotM p)
    (f : Buf (Elt F) (m.view.loc (thr d L))) (hX : m.view.read (Elt F) f = X) :
    ((m.view.loc (thr d L)) ↦[m.view.set]{fullShare} f : sProp 𝕄) ⊢ slotFull d L p X := by
  subst hm; unfold slotFull; iintro H; iexists f; iframe H; ipureintro; exact hX
theorem stageFree_at {m : Memref sig .scVector .vmem S128 .f32} (hm : m = stageM) :
    stageFree d L ⊢ (iprop(∃ f : Buf (Elt F) (m.view.loc (thr d L)), (m.view.loc (thr d L)) ↦[m.view.set]{fullShare} f) : sProp 𝕄) := by
  subst hm; exact .rfl
theorem stageFull_of (w : S128.Idx → F .f32) {m : Memref sig .scVector .vmem S128 .f32} (hm : m = stageM)
    (f : Buf (Elt F) (m.view.loc (thr d L))) (hX : m.view.read (Elt F) f = w) :
    ((m.view.loc (thr d L)) ↦[m.view.set]{fullShare} f : sProp 𝕄) ⊢ stageFull d L w := by
  subst hm; unfold stageFull; iintro H; iexists f; iframe H; ipureintro; exact hX

theorem sg_val {k : Nat} (h : k < 4) : (sg k).val = k := Nat.mod_eq_of_lt h

/-- The loop over a segment's groups: the accumulators and the output slot are the segment's. -/
theorem groups_run (w7 w8 w9 : BitVec 32) (h2 : k0_chk2 w7) (b : BitVec 1) (p : Fin 2) (X : S400x128.Idx → F .f32) (A : S2176.Idx → F .f32)
    (t1 : Fin k0_t1_loop.trips) (h4 : k0_chk4 L t1 w9) (h3 : k0_chk3 L t1 w8) (v94 v95 : BitVec 1) (v96 v97 v105 v106 v114 v115 v125 v126 v143 : BitVec 32) (v157 : BitVec 1)
    (e7 : k0_off11 w7 = ![p.val, 0, 0]) (e8 : k0_off13 w8 = ![0]) {α : Type}
    {kont : Unit → Prog (TpuEff nD τ sig (Elt F) Λ₀ (thr d L).2) α} {Q : α → sProp 𝕄} :
    iprop(((aV).view.loc (thr d L) ↦{fullShare} A) ∗ slotFull d L p X ∗ stageFree d L)
      ⊢ iprop((iprop(((aV).view.loc (thr d L) ↦{fullShare} segAcc b X A) ∗ slotFull d L p X ∗ stageFull d L (outSeg b X A))
          -∗ wp frame (wpE (defs₀ (F := F)) 𝒱₀ (thr d L) none) Set.univ (kont ⟨⟩) Q)
        -∗ wp frame (wpE (defs₀ (F := F)) 𝒱₀ (thr d L) none) Set.univ
          ((Scf.Loop.for k0_t2_loop k0_t2_ok ⟨⟩ (k0_t2_body L xV (Memref.isWhole_whole _) oV (Memref.isWhole_whole _) aV (Memref.isWhole_whole _) bV (Memref.isWhole_whole _) cc0_scoped1
            wV (Memref.isWhole_whole _) cc0_scoped3 t1 w7 w8 w9 h4 h3 h2 v94 v95 v96 v97 v105 v106 v114 v115 v125 v126 v143 v157 b)) >>= kont) Q) := by
  have es := slotAt_eq e7 (k0_off11_inb w7 h2) (slot_inb p)
  have eo := stageAt_eq e8 (k0_off13_inb L t1 w8 h3) (by decide)
  iintro ⟨HA, HX, HS⟩ Hk
  ihave HX := (slotFull_at d L p _ es) $$ HX
  icases HX with ⟨%f, %hX, HX⟩
  ihave HS := (stageFree_at d L eo) $$ HS
  icases HS with ⟨%fw, HS⟩
  sl_for (fun n _ => groupsI d L w7 h2 (k0_off13 w8) (k0_off13_inb L t1 w8 h3) b X A f n) $$ [HA HX HS]
  · intro g u
    exact groups_step d L w7 w8 w9 h2 b X A f hX t1 h4 h3 v94 v95 v96 v97 v105 v106 v114 v115 v125 v126 v143 v157 g u
  · unfold groupsI
    rw [Nat.mul_zero, mixW_none]
    iframe HA HX
    iexists fw
    iframe HS
    ipureintro
    intro y hy
    exact absurd hy (Nat.not_lt_zero _)
  iintro %u HL
  unfold groupsI
  icases HL with ⟨HA, HX, %fw', %hw, HS⟩
  iapply Hk
  isplitl [HA]
  · iapply (pts_of_eq (mixW_all b X A)) $$ HA
  isplitl [HX]
  · iapply (slotFull_of d L p X es f hX) $$ HX
  · iapply (stageFull_of d L _ eo fw' (funext fun y => hw y (y 0).isLt)) $$ HS

theorem ne_self (x : BitVec 32) : Scalar.cmpi .ne x x = 0#1 := by simp [Scalar.cmpi, IntOp.cmpi]

/-- The loaded slot is idle again, under its number two segments on. -/
theorem idle_next (q : Fin 2 → PosShare TreeShare) (xf : S1600x16384.Idx → F .f32) (k : Nat) (X : S400x128.Idx → F .f32) :
    iprop(slotFull d L (par k) X ∗ tab d L (q (par k)) xf ∗ semVal (cellI d L (par k)) 0) ⊢ (idleI d L q xf (par (k + 1 + 1)) : sProp 𝕄) := by
  rw [show par (k + 1 + 1) = par k from Fin.ext (Nat.add_mod_right k 2)]
  unfold idleI slotFull slotFree
  iintro ⟨⟨%f, -, Hf⟩, Ht, Hs⟩
  iframe
  iexists f; iexact Hf

/-- One segment. -/
theorem segs_step (q : Fin 2 → PosShare TreeShare) (xf : S1600x16384.Idx → F .f32) (A : S2176.Idx → F .f32)
    (O : CellTallies nD τ sig (HIx 1)) (W : Waits sig (HIx 1)) (v4 v7 v27 c0 : BitVec 32) (v26 : BitVec 1) (k : Fin k0_t1_loop.trips) (acc : Args) :
    iprop(Transfers.MayWaits (thr d L) (default : HIx 1) O ∗ segsI d L q xf A O W k acc) ⊢ wp frame (wpE (defs₀ (F := F)) 𝒱₀ (thr d L) none) Set.univ
      (k0_t1_body L xV (Memref.isWhole_whole _) oV (Memref.isWhole_whole _) aV (Memref.isWhole_whole _) bV (Memref.isWhole_whole _) cc0_scoped1
        wV (Memref.isWhole_whole _) cc0_scoped3 v4 v7 v26 v27 c0 k acc)
      (fun acc' => segsI d L q xf A O W (k + 1) acc') := by
  obtain ⟨b6, b7, b8, b9, b10, b11⟩ := acc
  have hk : k.val < 4 := k.isLt
  have hc2 := cond2_yes L k
  have hc7 := cond7_no L k
  have k1 := chk1_ok L k
  have k2 := chk2_ok k
  have k3 := chk3_ok L k
  have k4 := chk4_ok L k
  have e8 : a8 k.val = 0#32 := by rw [a8, Nat.div_eq_of_lt hk]
  rw [e8] at k3
  by_cases h3 : k.val < 3
  · have hc1 := cond1_yes L k h3
    have hc5 := cond5_no L k h3
    sl_unfold [k0_t1_body]
    simp only [k0_part9_eq_skeleton, k0_part10_eq_skeleton, k0_part11_eq_skeleton]
    unfold k0_part9_skel k0_part10_skel k0_part11_skel
    simp only [Prog.lift, Prog.bind_op, Prog.bind_ret, Prog.pure_eq_ret, Prog.bind_assoc, dite_eq_ite, ite_self]
    unfold segsI
    rw [if_pos hk, if_pos hk, e8]
    iintro ⟨#Hmw, %he, HF, HI, HA, ⟨HS, HD, HV⟩, HO⟩
    simp only [Prod.mk.injEq] at he
    obtain ⟨rfl, rfl, rfl, rfl, rfl, rfl⟩ := he
    sl_exec
    iapply (wp_fetch d L q xf (par (k.val + 1)) (sg (k.val + 1))
      (srcAt_eq ((off5_eq L k h3).trans (by rw [sg_val (show k.val + 1 < 4 by omega)])) _ _) (slotAt_eq (off4_eq k h3) _ _) (semAt_eq (off6_eq k h3) _ _)) $$ HI
    iintro HG
    sl_exec
    unfold owesI
    icases HO with ⟨%W', %hW, HO⟩
    iapply (wp_await d L q xf (par k.val) (sg k.val) (O := O) (W := W') (slotAt_eq (off7_eq k) _ _) (semAt_eq (off9_eq k) _ _)) $$ [HF HO]
    · iframe
      iexact Hmw
    unfold readyI
    iintro ⟨⟨HX, HT, HVI⟩, HO⟩
    sl_exec
    iapply (groups_run d L _ _ _ _ _ (par k.val) _ _ k _ _ _ _ _ _ _ _ _ _ _ _ _ _ (off11_eq k) (e8 ▸ off13_eq k)) $$ [HA HX HS]
    · iframe
    iintro ⟨HA, HX, HS⟩
    sl_exec
    sl_step
    rw [if_pos (show k.val + 1 < 4 by omega), if_pos (show k.val + 1 < 4 by omega)]
    isplitr
    · ipureintro
      simp only [ne_self]
      clear * - h3
      revert k
      decide +kernel
    iframe HG
    isplitl [HX HT HVI]
    · iapply (idle_next d L q xf k.val _); iframe
    isplitl [HA]
    · iapply (pts_of_eq (congrArg (fun b => segAcc b (segN xf (blk L) k) (accAt xf (blk L) A k)) (flag_eq k))) $$ HA
    isplitl [HS HD HV]
    · iframe
      unfold stageFull stageFree
      icases HS with ⟨%f, -, HS⟩
      iexists f; iexact HS
    iexists _
    iframe HO
    ipureintro
    intro p hp
    rcases Finset.mem_insert.mp hp with rfl | hp
    · exact .inr rfl
    · exact hW p hp
  · have hc1 := cond1_no L k h3
    have hc5 := cond5_yes L k h3
    have ek : k.val = 3 := by omega
    sl_unfold [k0_t1_body]
    simp only [k0_part9_eq_skeleton, k0_part10_eq_skeleton, k0_part11_eq_skeleton]
    unfold k0_part9_skel k0_part10_skel k0_part11_skel
    simp only [Prog.lift, Prog.bind_op, Prog.bind_ret, Prog.pure_eq_ret, Prog.bind_assoc, dite_eq_ite, ite_self]
    unfold segsI
    rw [if_pos hk, if_pos hk, e8]
    iintro ⟨#Hmw, %he, HF, HI, HA, ⟨HS, HD, HV⟩, HO⟩
    simp only [Prod.mk.injEq] at he
    obtain ⟨rfl, rfl, rfl, rfl, rfl, rfl⟩ := he
    sl_exec
    unfold owesI
    icases HO with ⟨%W', %hW, HO⟩
    iapply (wp_await d L q xf (par k.val) (sg k.val) (O := O) (W := W') (slotAt_eq (off7_eq k) _ _) (semAt_eq (off9_eq k) _ _)) $$ [HF HO]
    · iframe
      iexact Hmw
    unfold readyI
    iintro ⟨⟨HX, HT, HVI⟩, HO⟩
    sl_exec
    iapply (groups_run d L _ _ _ _ _ (par k.val) _ _ k _ _ _ _ _ _ _ _ _ _ _ _ _ _ (off11_eq k) (e8 ▸ off13_eq k)) $$ [HA HX HS]
    · iframe
    iintro ⟨HA, HX, HS⟩
    sl_exec
    iapply (wp_send d L _ rfl (dstAt_eq (off16_eq L) _ _) rfl) $$ [HS HD HV]
    · iframe
    iintro HS
    sl_exec
    sl_step
    rw [if_neg (show ¬ k.val + 1 < 4 by omega), if_neg (show ¬ k.val + 1 < 4 by omega)]
    isplitr
    · ipureintro
      simp only [ne_self]
      clear * - h3
      revert k
      decide +kernel
    iframe HI
    isplitl [HX HT HVI]
    · iapply (idle_next d L q xf k.val _); iframe
    isplitl [HA]
    · iapply (pts_of_eq (congrArg (fun b => segAcc b (segN xf (blk L) k) (accAt xf (blk L) A k)) (flag_eq k))) $$ HA
    isplitl [HS]
    · have eo : outSeg (Scalar.cmpi .eq (Scalar.addi (a11 k) 0#32) 0#32) (seg xf (blk L) (sg k.val)) (accAt xf (blk L) A k) = outAt xf (blk L) A := by
        rw [flag_eq k]; unfold outAt segN; rw [ek]
      rw [eo]
      iexact HS
    iexists _
    iframe HO
    ipureintro
    intro p hp
    rcases Finset.mem_insert.mp hp with rfl | hp
    · exact .inr rfl
    · exact hW p hp

end Cert.Proof

end
-- ==== Proof.Tile.lean ====
/-
  One vector subcore's run of the SparseCore kernel, over any float values: from its block of the result, a read share of
  the field table and its own scratch, it leaves in the block the values of its 128 columns.
-/
module

public import proofs.«01_k».proof.Proof.TileTrip

@[expose] public section

set_option maxRecDepth 16384

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The values do not depend on what the accumulators held at the start -/

theorem accR_first (X : S400x128.Idx → F .f32) (A A' : S2176.Idx → F .f32) (g r : Nat) : accR 1#1 X A g r = accR 1#1 X A' g r := rfl

theorem accAt_indep (xf : S1600x16384.Idx → F .f32) (b : Fin 32) (A A' : S2176.Idx → F .f32) : ∀ k, accAt xf b A (k + 1) = accAt xf b A' (k + 1)
  | 0 => rfl
  | k + 1 => congrArg (segAcc (flag (k + 1)) (segN xf b (k + 1))) (accAt_indep xf b A A' k)

/-- The results of block `b`'s columns. -/
def outV (xf : S1600x16384.Idx → F .f32) (b : Fin 32) : S128.Idx → F .f32 := outAt xf b fun _ => Scalar.ofBits .f32 0x00000000#32

theorem outAt_eq (xf : S1600x16384.Idx → F .f32) (b : Fin 32) (A : S2176.Idx → F .f32) : outAt xf b A = outV xf b :=
  congrArg (outSeg (flag 3) (segN xf b 3)) (accAt_indep xf b A _ 2)

/-- The SparseCore's part of the result: block after block. -/
def oVal (xf : S1600x16384.Idx → F .f32) : S4096.Idx → F .f32 :=
  fun y => outV xf ⟨(y 0).val / 128, by have h : (y 0).val < 4096 := (y 0).isLt; omega⟩ (ix1 ⟨(y 0).val % 128, Nat.mod_lt _ (by decide)⟩)

/-! ## The buffers a subcore is handed -/

/-- The field table and the SparseCore's part of the result, on device `d`. -/
abbrev xLoc (d : Dev nD) : Loc nD τ sig := (SparseCore.T d).loc main_v1
abbrev oLoc (d : Dev nD) : Loc nD τ sig := (SparseCore.T d).loc main_v2

/-- Block `b` of the result's words. -/
abbrev oSet (b : Fin 32) : Finset S4096.Idx := Finset.univ.filter fun y => 128 * b.val ≤ (y 0).val ∧ (y 0).val < 128 * b.val + 128

theorem set_dstM (b : Fin 32) : (dstM b).view.set = oSet b := by
  refine (View.set_slice_whole _ _).trans (Finset.ext fun y => ?_)
  rw [Rect.mem_set_unit, Finset.mem_filter]
  exact ⟨fun h => ⟨Finset.mem_univ _, h 0⟩, fun h a => match a with | ⟨0, _⟩ => h.2⟩

variable (d : Dev nD) (L : grid0.Coords)

/-- A read share of the table; a block of the result. -/
abbrev xPts (q : PosShare TreeShare) (xf : S1600x16384.Idx → F .f32) : sProp 𝕄 := xLoc d ↦{q} (show Buf (Elt F) (xLoc d) from xf)
abbrev oPts (b : Fin 32) (f : S4096.Idx → F .f32) : sProp 𝕄 := oLoc d ↦[oSet b]{fullShare} (show Buf (Elt F) (oLoc d) from f)

theorem dstFree_of (f : S4096.Idx → F .f32) : oPts d (blk L) f ⊢ dstFree d L := by
  unfold dstFree
  rw [set_dstM]
  iintro H
  iexists f; iexact H

theorem dstFull_val (xf : S1600x16384.Idx → F .f32) (A : S2176.Idx → F .f32) :
    dstFull d L (outAt xf (blk L) A) ⊢ (oPts d (blk L) (oVal xf) : sProp 𝕄) := by
  unfold dstFull
  iintro ⟨%f, %hf, H⟩
  have e : ∀ y ∈ (dstM (blk L)).view.set, f y = (show Buf (Elt F) (oLoc d) from oVal xf) y := by
    intro y hy
    obtain ⟨x, -, rfl⟩ := Finset.mem_map.mp hy
    refine (congrFun hf x).trans ?_
    rw [outAt_eq]
    have hx : (x 0).val < 128 := (x 0).isLt
    have e0 : (((dstM (blk L)).view.emb x) 0).val = 128 * (blk L).val + 1 * (x 0).val := rfl
    show outV xf (blk L) x = oVal xf ((dstM (blk L)).view.emb x)
    unfold oVal
    congr 1
    · exact Fin.ext (show (blk L).val = (((dstM (blk L)).view.emb x) 0).val / 128 by omega)
    · rw [eq_ix1 x]
      exact congrArg ix1 (Fin.ext (show (x 0).val = (((dstM (blk L)).view.emb x) 0).val % 128 by omega))
  unfold oPts
  rw [← set_dstM]
  iapply (Entails.of_eq (pointsTo_congr e)) $$ H

/-! ## The two input slots and the output slot, out of their buffers -/

theorem slots_disjoint : (slotM 1).view.set ⊆ Finset.univ \ (slotM 0).view.set := by
  intro y hy
  refine Finset.mem_sdiff.mpr ⟨Finset.mem_univ _, fun h0 => ?_⟩
  rw [View.set_reshape, View.set_slice_whole, Rect.mem_set_unit] at hy h0
  have a : 1 ≤ (y 0).val := (hy 0).1
  have b : (y 0).val < 0 + 1 := (h0 0).2
  omega

/-- The rest of the input buffer, beside its two slots. -/
def slotsRest : sProp 𝕄 :=
  iprop(∃ f : Buf (Elt F) ((bV).view.loc (thr d L)), ((bV).view.loc (thr d L)) ↦[(Finset.univ \ (slotM 0).view.set) \ (slotM 1).view.set]{fullShare} f)

theorem slots_split : (iprop(∃ f, (thr d L).loc cc0_scoped0 ↦{fullShare} f) : sProp 𝕄) ⊢ iprop(slotFree d L 0 ∗ slotFree d L 1 ∗ slotsRest d L) := by
  iintro ⟨%f, H⟩
  ihave H := (pointsTo_split_subset (ℓ := (bV).view.loc (thr d L)) (q := fullShare) (Finset.subset_univ (slotM 0).view.set)).1 $$ H
  icases H with ⟨H0, H⟩
  ihave H := (pointsTo_split_subset (ℓ := (bV).view.loc (thr d L)) (q := fullShare) slots_disjoint).1 $$ H
  icases H with ⟨H1, H⟩
  unfold slotFree slotsRest
  isplitl [H0]; · iexists f; iexact H0
  isplitl [H1]; · iexists f; iexact H1
  iexists f; iexact H

theorem slots_join : iprop(slotFree d L 0 ∗ slotFree d L 1 ∗ slotsRest d L) ⊢ (iprop(∃ f, (thr d L).loc cc0_scoped0 ↦{fullShare} f) : sProp 𝕄) := by
  unfold slotFree slotsRest
  iintro ⟨⟨%f0, H0⟩, ⟨%f1, H1⟩, %f, H⟩
  ihave H := (pointsTo_join_subset (ℓ := (bV).view.loc (thr d L)) (q := fullShare) slots_disjoint) $$ [H1 H]
  · iframe
  ihave H := (pointsTo_join_subset (ℓ := (bV).view.loc (thr d L)) (q := fullShare) (Finset.subset_univ (slotM 0).view.set)) $$ [H0 H]
  · iframe
  iexists _; iexact H

/-- The rest of the output buffer, beside its first slot. -/
def stageRest : sProp 𝕄 :=
  iprop(∃ f : Buf (Elt F) ((wV).view.loc (thr d L)), ((wV).view.loc (thr d L)) ↦[Finset.univ \ (stageM).view.set]{fullShare} f)

theorem stage_split : (iprop(∃ f, (thr d L).loc cc0_scoped2 ↦{fullShare} f) : sProp 𝕄) ⊢ iprop(stageFree d L ∗ stageRest d L) := by
  iintro ⟨%f, H⟩
  ihave H := (pointsTo_split_subset (ℓ := (wV).view.loc (thr d L)) (q := fullShare) (Finset.subset_univ (stageM).view.set)).1 $$ H
  icases H with ⟨H0, H⟩
  unfold stageFree stageRest
  isplitl [H0]; · iexists f; iexact H0
  iexists f; iexact H

theorem stage_join : iprop(stageFree d L ∗ stageRest d L) ⊢ (iprop(∃ f, (thr d L).loc cc0_scoped2 ↦{fullShare} f) : sProp 𝕄) := by
  unfold stageFree stageRest
  iintro ⟨⟨%f0, H0⟩, %f, H⟩
  ihave H := (pointsTo_join_subset (ℓ := (wV).view.loc (thr d L)) (q := fullShare) (Finset.subset_univ (stageM).view.set)) $$ [H0 H]
  · iframe
  iexists _; iexact H

/-- A read share of the table, in the two halves the slots use. -/
theorem tab_halves (q : PosShare TreeShare) (xf : S1600x16384.Idx → F .f32) :
    (xPts d q xf : sProp 𝕄) ⊣⊢ iprop(tab d L (![q.left, q.right] 0) xf ∗ tab d L (![q.left, q.right] 1) xf) :=
  pointsTo_share (PosShare.mem_left_op_right q)

/-! ## The run -/

/-- The evidence that a wait may be made is kept. -/
theorem dup_waits (O : CellTallies nD τ sig (HIx 1)) (R : sProp 𝕄) :
    iprop(Transfers.MayWaits (thr d L) (default : HIx 1) O ∗ R)
      ⊢ iprop(Transfers.MayWaits (thr d L) (default : HIx 1) O ∗ Transfers.MayWaits (thr d L) (default : HIx 1) O ∗ R) := by
  iintro ⟨#Hm, HI⟩
  iframe HI
  isplitr <;> iexact Hm

/-- One vector subcore's run. -/
theorem tile_body (q : PosShare TreeShare) (xf : S1600x16384.Idx → F .f32) (fo : S4096.Idx → F .f32)
    (O : CellTallies nD τ sig (HIx 1)) (W : Waits sig (HIx 1)) (hO : ∀ g, O g none = 0) :
    iprop(levAts (K (F := F)).L (K (F := F)).lev ∗ emp
        ∗ (xPts d q xf ∗ oPts d (blk L) fo)
        ∗ scopedBufs (thr d L) ∗ scopedSems0 (thr d L) ∗ owes (thr d L) O W)
      ⊢ wp frame (wpE (defs₀ (F := F)) 𝒱₀ (thr d L) none) Set.univ
          (cc0_k L xV (Memref.isWhole_whole _) oV (Memref.isWhole_whole _) aV (Memref.isWhole_whole _) bV (Memref.isWhole_whole _) cc0_scoped1
            wV (Memref.isWhole_whole _) cc0_scoped3)
          fun _ => iprop((xPts d q xf ∗ oPts d (blk L) (oVal xf))
            ∗ scopedBufs (thr d L) ∗ scopedSems0 (thr d L)
            ∗ ∃ W', ⌜∀ p ∈ W', p ∈ W ∨ p.2 = none⌝ ∗ owes (thr d L) O W') := by
  have h5 := chk5_ok
  rw [(K (F := F)).scopedBufs_V facts d (cV L) (jV L), SparseCore.Cfg.scopedSems0_V (Val := Elt F) d (cV L) (jV L), ownSems0_V, ownBufs_V]
  simp only [cc0_k_eq_skeleton]
  unfold cc0_k_skel
  simp only [k0_part12_eq_skeleton, k0_part13_eq_skeleton, k0_part14_eq_skeleton]
  unfold k0_part12_skel k0_part13_skel k0_part14_skel
  simp only [Prog.lift, Prog.bind_op, Prog.bind_ret, Prog.pure_eq_ret, Prog.bind_assoc, dite_eq_ite, ite_self]
  iintro ⟨#Hlv, -, ⟨Hx, Ho⟩, ⟨⟨%A, HA⟩, HB, HS, Hbufs⟩, ⟨HV0, HV1, HVo, Hsems⟩, HO⟩
  ihave Hmw := (show levAts (K (F := F)).L (K (F := F)).lev ⊢ Transfers.MayWaits (thr d L) (default : HIx 1) O from
    (K (F := F)).mayWaits_none (thr := thr d L) hO) $$ Hlv
  ihave Hx := (tab_halves d L q xf).1 $$ Hx
  icases Hx with ⟨Hx0, Hx1⟩
  ihave HB := (slots_split d L) $$ HB
  icases HB with ⟨HB0, HB1, HBr⟩
  ihave HS := (stage_split d L) $$ HS
  icases HS with ⟨HS, HSr⟩
  ihave HD := (dstFree_of d L fo) $$ Ho
  ihave HA := (show ((thr d L).loc cc0_scratch0 ↦{fullShare} A) ⊢ ((aV).view.loc (thr d L) ↦{fullShare} accAt xf (blk L) A 0 : sProp 𝕄) from Entails.rfl) $$ HA
  ihave HI0 := (show iprop(slotFree d L 0 ∗ tab d L (![q.left, q.right] 0) xf ∗ semVal (cellI d L 0) 0) ⊢ (idleI d L ![q.left, q.right] xf (par 0) : sProp 𝕄) from Entails.rfl) $$ [HB0 Hx0 HV0]
  · iframe
  ihave HI1 := (show iprop(slotFree d L 1 ∗ tab d L (![q.left, q.right] 1) xf ∗ semVal (cellI d L 1) 0) ⊢ (idleI d L ![q.left, q.right] xf (par 1) : sProp 𝕄) from Entails.rfl) $$ [HB1 Hx1 HV1]
  · iframe
  iapply (wp_fetch d L ![q.left, q.right] xf (par 0) (sg 0) (srcAt_eq (off2_eq L) _ _) (slotAt_eq k0_off1_eq _ _) (semAt_eq k0_off3_eq _ _)) $$ HI0
  iintro HF
  sl_for (fun k acc => iprop(Transfers.MayWaits (thr d L) (default : HIx 1) O ∗ segsI d L ![q.left, q.right] xf A O W k acc)) $$ [HF HI1 HA HS HD HVo HO]
  · intro k acc
    exact (dup_waits d L O _).trans ((sep_mono (P := Transfers.MayWaits (thr d L) (default : HIx 1) O) .rfl
      (segs_step d L ![q.left, q.right] xf A O W _ _ _ _ _ k acc)).trans (wp_frame_l _ _ _))
  · unfold segsI owesI
    rw [if_pos (by decide), if_pos (by decide)]
    iframe HF HI1 HA HS HD HVo
    isplitr
    · iexact Hmw
    isplitr
    · ipureintro; rfl
    iexists W
    iframe HO
    ipureintro
    exact fun p hp => .inl hp
  iintro %acc HI
  unfold segsI owesI
  rw [show Scf.trips k0_t1_loop.lb k0_t1_loop.ub k0_t1_loop.st = 4 by decide, if_neg (by decide), if_neg (by decide)]
  obtain ⟨b6, b7, b8, b9, b10, b11⟩ := acc
  icases HI with ⟨-, %he, HI0, HI1, HA, HF, %W', %hW, HO⟩
  simp only [Prod.mk.injEq] at he
  obtain ⟨rfl, rfl, rfl, rfl, rfl, rfl⟩ := he
  sl_exec
  iapply (wp_sent d L _ (O := O) (W := W') (dstAt_eq (off22_eq L) _ _) (semAt_eq off23_eq _ _)) $$ [HF HO]
  · iframe
    iexact Hmw
  iintro ⟨HD, HS, HVo, HO⟩
  sl_step
  unfold idleI
  rw [show par 4 = 0 from rfl, show par (4 + 1) = 1 from rfl]
  icases HI0 with ⟨HB0, Hx0, HV0⟩
  icases HI1 with ⟨HB1, Hx1, HV1⟩
  isplitl [Hx0 Hx1 HD]
  · isplitl [Hx0 Hx1]
    · iapply (tab_halves d L q xf).2
      iframe
    · iapply (dstFull_val d L xf A) $$ HD
  isplitl [HA HB0 HB1 HBr HS HSr Hbufs]
  · isplitl [HA]
    · iexists _; iexact HA
    isplitl [HB0 HB1 HBr]
    · iapply (slots_join d L)
      iframe
    isplitl [HS HSr]
    · iapply (stage_join d L)
      iframe
    iexact Hbufs
  isplitl [HV0 HV1 HVo Hsems]
  · iframe
  iexists _
  iframe HO
  ipureintro
  intro p hp
  rcases Finset.mem_insert.mp hp with rfl | hp
  · exact .inr rfl
  · exact hW p hp

end Cert.Proof

end
-- ==== Proof.Call.lean ====
/-
  The SparseCore call, over any float values: what its handshakes carry, each vector subcore's obligation, and how a core's
  part of the field table and of the result goes to its sixteen subcores and comes back.
-/
module

public import proofs.«01_k».proof.Proof.Tile
public import Idealize.ShloMosaic.Lib.ShareLeaves

@[expose] public section

set_option maxRecDepth 16384

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Idealize.ShloMosaic.Tactic

variable {F : FTy → Type}

local notation "𝕄" => MT nD τ sig (HIx 1) (Elt F) ℕ UU ℕ

variable [FloatOps F]

/-! ## Shares and blocks -/

/-- Core `c`'s share of the field table, and its subcore `i`'s. -/
abbrev xqC (c : Fin 2) : PosShare TreeShare := leaf 1 fullShare c
abbrev xqT (c : Fin 2) (i : Fin 16) : PosShare TreeShare := leaf 4 (xqC c) i

/-- The block of the result that subcore `i` of core `c` computes. -/
def blkOf (c : Fin 2) (i : Fin 16) : Fin 32 := ⟨i.val + 16 * c.val, by omega⟩

variable (xf : Dev nD → S1600x16384.Idx → F .f32) (fo : Dev nD → S4096.Idx → F .f32)

/-- What core `c` gets: its share of the table, its sixteen blocks of the result holding `f`. -/
abbrev corePts (d : Dev nD) (c : Fin 2) (f : S4096.Idx → F .f32) : sProp 𝕄 :=
  iprop(xPts d (xqC c) (xf d) ∗ bigSep Finset.univ fun i : Fin 16 => oPts d (blkOf c i) f)
/-- What subcore `i` of core `c` gets: its share of the table, its block of the result holding `f`. -/
abbrev taskPts (d : Dev nD) (c : Fin 2) (i : Fin 16) (f : S4096.Idx → F .f32) : sProp 𝕄 :=
  iprop(xPts d (xqT c i) (xf d) ∗ oPts d (blkOf c i) f)

/-- The call's payloads: the blocks go out holding what the result's buffer held, and come back holding the results. -/
def P : (K (F := F)).Pay (nD := nD) (Val := Elt F) (Name := ℕ) (U := UU) where
  st := fun q d c => match q with | 0 => corePts xf d (Fin.cast nCore_zero c) (fo d)
  dn := fun q d c => match q with | 0 => corePts xf d (Fin.cast nCore_zero c) (oVal (xf d))
  go := fun q d c i => match q with | 0 => taskPts xf d (Fin.cast nCore_zero c) (Fin.cast nSub_zero i) (fo d)
  td := fun q d c i => match q with | 0 => taskPts xf d (Fin.cast nCore_zero c) (Fin.cast nSub_zero i) (oVal (xf d))
  x := fun _ _ => iprop(emp)

instance P_storable : (P (F := F) xf fo).IsStorable where
  st q d c := match q with
    | 0 => (inferInstance : BI.Storable (upEmb : UEmb _ 𝕄) (corePts xf d (Fin.cast nCore_zero c) (fo d)))
  dn q d c := match q with
    | 0 => (inferInstance : BI.Storable (upEmb : UEmb _ 𝕄) (corePts xf d (Fin.cast nCore_zero c) (oVal (xf d))))
  go q d c i := match q with
    | 0 => (inferInstance : BI.Storable (upEmb : UEmb _ 𝕄) (taskPts xf d (Fin.cast nCore_zero c) (Fin.cast nSub_zero i) (fo d)))
  td q d c i := match q with
    | 0 => (inferInstance : BI.Storable (upEmb : UEmb _ 𝕄) (taskPts xf d (Fin.cast nCore_zero c) (Fin.cast nSub_zero i) (oVal (xf d))))

/-! ## The subcores' obligation -/

/-- The grid point of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xV (Memref.isWhole_whole _) oV (Memref.isWhole_whole _)
          aV (Memref.isWhole_whole _) bV (Memref.isWhole_whole _) cc0_scoped1 wV (Memref.isWhole_whole _) cc0_scoped3) ⟨⟩ c s := rfl

/-- The waits a subcore recorded are the call's or its own copies': the weaker form the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore of the call leaves its block's results, from its share of the table and its block. -/
theorem tileObl : (K (F := F)).TileObl (D (F := F)) 𝒱 (P xf fo) v₀ 0 := by
  intro d c i O W hO _ _
  simp only [show (P xf fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (xqT (Fin.cast nCore_zero c) (Fin.cast nSub_zero i)) (xf d) (fo d) O W hO).trans
    (wp_mono frame _ _ fun _ => obl_post)

/-! ## A core's part, to its subcores and back -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem corePts_tasks (d : Dev nD) (c : Fin 2) (f : S4096.Idx → F .f32) :
    (corePts xf d c f : sProp 𝕄) = bigSep Finset.univ fun i : Fin 16 => taskPts xf d c i f := by
  unfold corePts taskPts
  rw [bigSep_sep']
  congr 1
  exact pointsTo_leaves Finset.univ _ 4 (xqC c)

theorem vecSplit : (K (F := F)).VecSplit' (P xf fo) 0 := by
  intro d c
  show (corePts xf d (Fin.cast nCore_zero c) (fo d) : sProp 𝕄) ⊢ |={Set.univ}=> iprop(
      (bigSep Finset.univ fun i : Fin ((K (F := F)).nSub 0) => taskPts xf d (Fin.cast nCore_zero c) (Fin.cast nSub_zero i) (fo d))
      ∗ ((bigSep Finset.univ fun i : Fin ((K (F := F)).nSub 0) => taskPts xf d (Fin.cast nCore_zero c) (Fin.cast nSub_zero i) (oVal (xf d)))
          -∗ corePts xf d (Fin.cast nCore_zero c) (oVal (xf d))))
  rw [bigSep_tasks (F := F) (fun i => taskPts xf d (Fin.cast nCore_zero c) i (fo d)),
    bigSep_tasks (F := F) (fun i => taskPts xf d (Fin.cast nCore_zero c) i (oVal (xf d))), corePts_tasks, corePts_tasks]
  iintro H; imodintro
  isplitl [H]; · iexact H
  iintro H; iexact H

/-! ## The whole buffers, to the two cores and back -/

theorem blocks_disjoint : ∀ p ∈ (Finset.univ : Finset (Fin 2 × Fin 16)), ∀ p' ∈ (Finset.univ : Finset (Fin 2 × Fin 16)), p ≠ p' →
    Disjoint (oSet (blkOf p.1 p.2)) (oSet (blkOf p'.1 p'.2)) := by
  rintro ⟨c, i⟩ - ⟨c', i'⟩ - h
  refine Finset.disjoint_left.mpr fun y hy hy' => h ?_
  have h1 := (Finset.mem_filter.mp hy).2
  have h2 := (Finset.mem_filter.mp hy').2
  simp only [blkOf] at h1 h2
  exact Prod.ext (Fin.ext (show c.val = c'.val by omega)) (Fin.ext (show i.val = i'.val by omega))

theorem blocks_cover : ((Finset.univ : Finset (Fin 2 × Fin 16)).biUnion fun p => oSet (blkOf p.1 p.2)) = Finset.univ := by
  refine Finset.eq_univ_iff_forall.mpr fun y => Finset.mem_biUnion.mpr ?_
  have hy : (y 0).val < 4096 := (y 0).isLt
  refine ⟨(⟨(y 0).val / 2048, by omega⟩, ⟨(y 0).val / 128 % 16, by omega⟩), Finset.mem_univ _, Finset.mem_filter.mpr ⟨Finset.mem_univ _, ?_⟩⟩
  simp only [blkOf]
  omega

theorem o_blocks (d : Dev nD) (f : S4096.Idx → F .f32) :
    (oLoc d ↦{fullShare} (show Buf (Elt F) (oLoc d) from f) : sProp 𝕄)
      = bigSep Finset.univ fun c : Fin 2 => bigSep Finset.univ fun i : Fin 16 => oPts d (blkOf c i) f := by
  refine Eq.trans ?_ (bigSep_univ_prod fun p : Fin 2 × Fin 16 => oPts d (blkOf p.1 p.2) f)
  rw [← pointsTo_biUnion Finset.univ (ℓ := oLoc d) (fun p : Fin 2 × Fin 16 => oSet (blkOf p.1 p.2)) blocks_disjoint, blocks_cover]; try rfl

theorem call_pts (d : Dev nD) (f : S4096.Idx → F .f32) :
    (bigSep Finset.univ fun c : Fin 2 => corePts xf d c f : sProp 𝕄)
      = iprop(xPts d fullShare (xf d) ∗ oLoc d ↦{fullShare} (show Buf (Elt F) (oLoc d) from f)) := by
  unfold corePts
  rw [bigSep_sep', o_blocks]
  congr 1
  exact (pointsTo_leaves Finset.univ _ 1 fullShare).symm

/-- The call starts from the field table and the result's buffer, whole; -/
theorem st0_eq (d : Dev nD) : (bigSep Finset.univ fun c : Fin ((K (F := F)).nCore 0) => (P xf fo).st 0 d c)
    = iprop(xPts d fullShare (xf d) ∗ oLoc d ↦{fullShare} (show Buf (Elt F) (oLoc d) from fo d)) := by
  rw [← call_pts]
  exact bigSep_congr fun _ _ => congrArg (fun c => corePts xf d c (fo d)) (Fin.ext rfl)
/-- and hands them back, the buffer holding the SparseCore's results. -/
theorem dn0_eq (d : Dev nD) : (bigSep Finset.univ fun c : Fin ((K (F := F)).nCore 0) => (P xf fo).dn 0 d c)
    = iprop(xPts d fullShare (xf d) ∗ oLoc d ↦{fullShare} (show Buf (Elt F) (oLoc d) from oVal (xf d))) := by
  rw [← call_pts]
  exact bigSep_congr fun _ _ => congrArg (fun c => corePts xf d c (oVal (xf d))) (Fin.ext rfl)

end Cert.Proof
-- ==== Proof.TcBody.lean ====
/-
  One grid point of the TensorCore's kernel: what it adds to its two running sums from the ten fields staged for it, and
  what it stores at the last point. Over any float values.
-/
module

public import proofs.«01_k».proof.Proof.Setup
public import Idealize.ShloMosaic.Lib.ValueIdx
public import Idealize.ShloMosaic.Lib.VecWindow
public import Idealize.ShloMosaic.Lib.Pipeline.Value

@[expose] public section

set_option maxRecDepth 16384

noncomputable section

namespace Cert.Proof

open Cert.KernelIdeal Cert.KernelIdeal.Gen

open Idealize.ShloMosaic Idealize.ShloMosaic.ValueIdx
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Field `j` of the ten staged: its sixteen rows. -/
def rows (X : S160x12288.Idx → F .f32) (j : Fin 10) : S16x12288.Idx → F .f32 := fun l =>
  X (ix2 ⟨16 * j.val + (l 0).val, by have := j.isLt; have h : (l 0).val < 16 := (l 0).isLt; omega⟩ (l 1))

variable [FloatOps F]

/-- The sum of the first nine fields, and the sum of the first eight fields' squares. -/
def sum9 (X : S160x12288.Idx → F .f32) : FVec F S16x12288 .f32 :=
  k1_pay17 (rows X 0) (rows X 1) (rows X 2) (rows X 3) (rows X 4) (rows X 5) (rows X 6) (rows X 7) (rows X 8)
def sq8 (X : S160x12288.Idx → F .f32) : FVec F S16x12288 .f32 :=
  k1_pay15 (rows X 0) (rows X 1) (rows X 2) (rows X 3) (rows X 4) (rows X 5) (rows X 6) (rows X 7)

/-- The running sum of the fields after grid point `i`, from `a` before it. -/
def stepS (i : Nat) (X : S160x12288.Idx → F .f32) (a : S16x12288.Idx → F .f32) : S16x12288.Idx → F .f32 :=
  k1_pay4 (BitVec.ofNat 32 i) (sum9 X) (rows X 9) a
/-- The running sum of the squares after grid point `i`, from `b` before it. -/
def stepQ (i : Nat) (X : S160x12288.Idx → F .f32) (b : S16x12288.Idx → F .f32) : S16x12288.Idx → F .f32 :=
  k1_pay5 (BitVec.ofNat 32 i) (sq8 X) (k1_pay16 (rows X 8)) (rows X 9) b
/-- What the last point stores, the running sums `a` and `b` before it. -/
def lastR (i : Nat) (X : S160x12288.Idx → F .f32) (a b : S16x12288.Idx → F .f32) : S1x12288.Idx → F .f32 :=
  k1_pay6 (BitVec.ofNat 32 i) (sq8 X) (k1_pay16 (rows X 8)) (sum9 X) (rows X 9) a b

/-- A load of field `j` of what a staging buffer shows. -/
theorem readAt_rows {sp : Space} (M : Memref sig .tc sp S160x12288 .f32) (f) (j : Fin 10)
    (h : ∀ a, (![16 * j.val, 0] : Fin 2 → Nat) a + S16x12288.size a ≤ S160x12288.size a) :
    M.view.readAt (Elt F) (Rect.unit (s := S160x12288) ![16 * j.val, 0] S16x12288.size h).toLoadRect f
      = rows (M.view.read (Elt F) f) j := by
  funext l
  refine congrArg (M.view.read (Elt F) f) (funext fun a => Fin.ext ?_)
  match a with
  | ⟨0, _⟩ => show 16 * j.val + 1 * (l 0).val = 16 * j.val + (l 0).val; omega
  | ⟨1, _⟩ => show 0 + 1 * (l 1).val = (l 1).val; omega

theorem zero2 : (![0, 0] : Fin 2 → Nat) = fun _ => 0 := funext fun a => by fin_cases a <;> rfl

/-- The kernel's two scratch buffers and the result's staging buffer, whole. -/
abbrev s0M : Memref sig .tc .vmem S16x12288 .f32 := Memref.whole cc1_scratch0
abbrev s1M : Memref sig .tc .vmem S16x12288 .f32 := Memref.whole cc1_scratch1
abbrev rM : Memref sig .tc .vmem S1x12288 .f32 := Memref.whole cc1_stg1_0
/-- A buffer of the kernel held at `f`. -/
abbrev tPt (c : Dev nD) {s : Shape} (M : Memref sig .tc .vmem s .f32) (f : Buf (Elt F) (M.view.loc (c : Thread nD τ))) : sProp 𝕄 :=
  M.view.loc (c : Thread nD τ) ↦{fullShare} f

/-- Loads and stores of a scratch buffer, whole. -/
theorem load_s0 (f h) : (s0M).view.readAt (Elt F) (Rect.unit (s := S16x12288) ![0, 0] S16x12288.size h).toLoadRect f = f :=
  Memref.readAt_unit_zero (Elt F) cc1_scratch0 zero2 h f
theorem load_s1 (f h) : (s1M).view.readAt (Elt F) (Rect.unit (s := S16x12288) ![0, 0] S16x12288.size h).toLoadRect f = f :=
  Memref.readAt_unit_zero (Elt F) cc1_scratch1 zero2 h f

/-- Storing all of either accumulator leaves what was stored. -/
theorem store_s0 (f w h) : (s0M).view.writes (Elt F) f [⟨Rect.unit (s := S16x12288) ![0, 0] S16x12288.size h, w⟩] = w :=
  Memref.write_access_unit_zero_univ (Elt F) cc1_scratch0 zero2 h f w
theorem store_s1 (f w h) : (s1M).view.writes (Elt F) f [⟨Rect.unit (s := S16x12288) ![0, 0] S16x12288.size h, w⟩] = w :=
  Memref.write_access_unit_zero_univ (Elt F) cc1_scratch1 zero2 h f w
/-- A store of the result's staging buffer, whole. -/
theorem store_r (f w h) : (rM).view.writes (Elt F) f [⟨Rect.unit (s := S1x12288) ![0, 0] S1x12288.size h, w⟩] = w :=
  Memref.write_access_unit_zero_univ (Elt F) cc1_stg1_0 zero2 h f w

/-- The ten loads of a staging buffer that shows `X`: its ten fields. -/
abbrev ld {sp : Space} (M : Memref sig .tc sp S160x12288 .f32) (f : Buf (Elt F) (M.view.loc ((0 : Dev nD) : Thread nD τ))) (off : Fin 2 → Nat)
    (h : ∀ a, off a + S16x12288.size a ≤ S160x12288.size a) : S16x12288.Idx → F .f32 :=
  M.view.readAt (Elt F) (Rect.unit (s := S160x12288) off S16x12288.size h).toLoadRect f

section Values
variable {sp : Space} (M : Memref sig .tc sp S160x12288 .f32) (f : Buf (Elt F) (M.view.loc ((0 : Dev nD) : Thread nD τ))) (i : Nat)
  (a b : S16x12288.Idx → F .f32)

theorem sum9_eq (X) (hf : M.view.read (Elt F) f = X) :
    k1_pay17 (ld M f _ inb_S160x12288_S16x12288_0_0) (ld M f _ inb_S160x12288_S16x12288_16_0) (ld M f _ inb_S160x12288_S16x12288_32_0)
      (ld M f _ inb_S160x12288_S16x12288_48_0) (ld M f _ inb_S160x12288_S16x12288_64_0) (ld M f _ inb_S160x12288_S16x12288_80_0)
      (ld M f _ inb_S160x12288_S16x12288_96_0) (ld M f _ inb_S160x12288_S16x12288_112_0) (ld M f _ inb_S160x12288_S16x12288_128_0) = sum9 X := by
  subst hf
  unfold sum9
  rw [← readAt_rows M f 0 inb_S160x12288_S16x12288_0_0, ← readAt_rows M f 1 inb_S160x12288_S16x12288_16_0,
    ← readAt_rows M f 2 inb_S160x12288_S16x12288_32_0, ← readAt_rows M f 3 inb_S160x12288_S16x12288_48_0,
    ← readAt_rows M f 4 inb_S160x12288_S16x12288_64_0, ← readAt_rows M f 5 inb_S160x12288_S16x12288_80_0,
    ← readAt_rows M f 6 inb_S160x12288_S16x12288_96_0, ← readAt_rows M f 7 inb_S160x12288_S16x12288_112_0,
    ← readAt_rows M f 8 inb_S160x12288_S16x12288_128_0]
  rfl

theorem sq8_eq (X) (hf : M.view.read (Elt F) f = X) :
    k1_pay15 (ld M f _ inb_S160x12288_S16x12288_0_0) (ld M f _ inb_S160x12288_S16x12288_16_0) (ld M f _ inb_S160x12288_S16x12288_32_0)
      (ld M f _ inb_S160x12288_S16x12288_48_0) (ld M f _ inb_S160x12288_S16x12288_64_0) (ld M f _ inb_S160x12288_S16x12288_80_0)
      (ld M f _ inb_S160x12288_S16x12288_96_0) (ld M f _ inb_S160x12288_S16x12288_112_0) = sq8 X := by
  subst hf
  unfold sq8
  rw [← readAt_rows M f 0 inb_S160x12288_S16x12288_0_0, ← readAt_rows M f 1 inb_S160x12288_S16x12288_16_0,
    ← readAt_rows M f 2 inb_S160x12288_S16x12288_32_0, ← readAt_rows M f 3 inb_S160x12288_S16x12288_48_0,
    ← readAt_rows M f 4 inb_S160x12288_S16x12288_64_0, ← readAt_rows M f 5 inb_S160x12288_S16x12288_80_0,
    ← readAt_rows M f 6 inb_S160x12288_S16x12288_96_0, ← readAt_rows M f 7 inb_S160x12288_S16x12288_112_0]
  rfl

theorem r8_eq (X) (hf : M.view.read (Elt F) f = X) : ld M f _ inb_S160x12288_S16x12288_128_0 = rows X 8 :=
  (readAt_rows M f 8 inb_S160x12288_S16x12288_128_0).trans (by rw [hf])
theorem r9_eq (X) (hf : M.view.read (Elt F) f = X) : ld M f _ inb_S160x12288_S16x12288_144_0 = rows X 9 :=
  (readAt_rows M f 9 inb_S160x12288_S16x12288_144_0).trans (by rw [hf])

end Values

/-- The kernel at one grid point: from the ten staged fields `X` and the running sums `a`, `b`, it leaves the running
    sums one point on, and, at the last point, the result in its staging buffer (elsewhere that is untouched). -/
theorem tc_body (c : Dev nD) (E : Set ℕ) (i : grid1.Coords) (M : Memref sig .tc .vmem S160x12288 .f32) (hM : M.IsWhole) (hr : (rM).IsWhole)
    (X : S160x12288.Idx → F .f32) (Y : S1x12288.Idx → F .f32) (a b : S16x12288.Idx → F .f32) (Q : PUnit → sProp 𝕄) :
    iprop(owns (c : Thread nD τ) M fullShare X ∗ tPt c rM Y ∗ tPt c s0M a ∗ tPt c s1M b
          ∗ (iprop(owns (c : Thread nD τ) M fullShare X ∗ tPt c rM (if k1_cond1 i = 1#1 then lastR (i 0).val X a b else Y)
                ∗ tPt c s0M (stepS (i 0).val X a) ∗ tPt c s1M (stepQ (i 0).val X b)) -∗ Q ⟨⟩))
      ⊢ wp frame (wpE (defs₀ (F := F)) 𝒱₀ (c : Thread nD τ) none) E
          (cc1_tck i M hM rM hr s0M (Memref.isWhole_whole _) s1M (Memref.isWhole_whole _)) Q := by
  simp only [cc1_tck_eq_skeleton]
  unfold cc1_tck_skel
  simp only [k1_part1_eq_skeleton]
  unfold k1_part1_skel
  unfold owns
  by_cases hl : k1_cond1 i = 1#1
  · rw [if_pos hl]
    simp only [Prog.lift, Prog.bind_op, Prog.bind_ret, Prog.pure_eq_ret, Prog.bind_assoc, dif_pos hl]
    iintro ⟨⟨%f, %hf, H0⟩, H1, Ha, Hb, Hk⟩
    sl_exec
    sl_step
    iapply Hk
    isplitl [H0]
    · iexists f; isplitr; · ipureintro; exact hf
      iexact H0
    isplitl [H1]
    · refine Entails.of_eq (pointsTo_congr fun y _ => ?_)
      rw [store_r, load_s0, load_s1]; unfold lastR; rw [← sum9_eq M f X hf, ← sq8_eq M f X hf, ← r8_eq M f X hf, ← r9_eq M f X hf]
    isplitl [Ha]
    · refine Entails.of_eq (pointsTo_congr fun y _ => ?_)
      rw [store_s0, load_s0]; unfold stepS; rw [← sum9_eq M f X hf, ← r9_eq M f X hf]
    · refine Entails.of_eq (pointsTo_congr fun y _ => ?_)
      rw [store_s1, load_s1]; unfold stepQ; rw [← sq8_eq M f X hf, ← r8_eq M f X hf, ← r9_eq M f X hf]
  · rw [if_neg hl]
    simp only [Prog.lift, Prog.bind_op, Prog.bind_ret, Prog.pure_eq_ret, Prog.bind_assoc, dif_neg hl]
    iintro ⟨⟨%f, %hf, H0⟩, H1, Ha, Hb, Hk⟩
    sl_exec
    sl_step
    iapply Hk
    isplitl [H0]
    · iexists f; isplitr; · ipureintro; exact hf
      iexact H0
    isplitl [H1]
    · iexact H1
    isplitl [Ha]
    · refine Entails.of_eq (pointsTo_congr fun y _ => ?_)
      rw [store_s0, load_s0]; unfold stepS; rw [← sum9_eq M f X hf, ← r9_eq M f X hf]
    · refine Entails.of_eq (pointsTo_congr fun y _ => ?_)
      rw [store_s1, load_s1]; unfold stepQ; rw [← sq8_eq M f X hf, ← r8_eq M f X hf, ← r9_eq M f X hf]

end Cert.Proof

end
-- ==== Proof.TcRegion.lean ====
/-
  The TensorCore's kernel over its ten grid points: the running sums after each point, what the pipeline's windows hold,
  and the kernel as a region of the program that leaves the dense half's result in its array. Over any float values.
-/
module

public import proofs.«01_k».proof.Proof.TcBody
public import Idealize.ShloMosaic.Lib.Pipeline.Regions
public import Idealize.ShloMosaic.Lib.Pipeline.RegionArrays
public import Idealize.ShloMosaic.Lib.Pipeline.ValueKit.Geometry

@[expose] public section

set_option maxRecDepth 16384

noncomputable section

namespace Cert.Proof

open Cert.KernelIdeal Cert.KernelIdeal.Gen

open Idealize.ShloMosaic Idealize.ShloMosaic.ValueIdx
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Idealize.ShloMosaic.Tactic

variable {F : FTy → Type}

local notation "𝕄" => MT nD τ sig (HIx 1) (Elt F) ℕ UU ℕ

/-! ## The running sums -/

/-- The ten fields grid point `k` sees: 160 rows of the field table, of its first 12288 columns. -/
def blkX (X : S1600x16384.Idx → F .f32) (k : Nat) : S160x12288.Idx → F .f32 := fun l =>
  X (ix2 ⟨(160 * k + (l 0).val) % 1600, Nat.mod_lt _ (by decide)⟩
    ⟨(l 1).val, by have h : (l 1).val < 12288 := (l 1).isLt; show (l 1).val < 16384; omega⟩)

variable [FloatOps F]

/-- The running sum of the fields before grid point `k`, and the running sum of their squares. -/
def sT (X : S1600x16384.Idx → F .f32) : Nat → S16x12288.Idx → F .f32
  | 0 => fun _ => Scalar.ofBits .f32 0#32
  | k + 1 => stepS k (blkX X k) (sT X k)
def qT (X : S1600x16384.Idx → F .f32) : Nat → S16x12288.Idx → F .f32
  | 0 => fun _ => Scalar.ofBits .f32 0#32
  | k + 1 => stepQ k (blkX X k) (qT X k)
/-- What the last grid point stores. -/
def tcOut (X : S1600x16384.Idx → F .f32) : S1x12288.Idx → F .f32 := lastR 9 (blkX X 9) (sT X 9) (qT X 9)

/-- The first point does not read the sums it finds. -/
theorem stepS_zero (B : S160x12288.Idx → F .f32) (a a' : S16x12288.Idx → F .f32) : stepS 0 B a = stepS 0 B a' := rfl
theorem stepQ_zero (B : S160x12288.Idx → F .f32) (a a' : S16x12288.Idx → F .f32) : stepQ 0 B a = stepQ 0 B a' := rfl

/-! ## What the windows hold -/

/-- A staging buffer of the field table's window after a fetch: the ten fields, whatever it held before. -/
theorem fill_blk (X : S1600x16384.Idx → F .f32) (t : Fin cfg1.N) (d : S160x12288.Idx → F .f32) :
    win1_0.fill (grid1.coords t) d ((win1_0.blk t).view.read (Elt F) X) = blkX X t.val := by
  have hx : ∀ a, win1_0.xsize (grid1.coords t) a = S160x12288.size a := by
    rcases fin_N1 t with rfl | rfl | rfl | rfl | rfl | rfl | rfl | rfl | rfl | rfl <;> decide +kernel
  have hi : win1_0.index t 0 = t.val ∧ win1_0.index t 1 = 0 := by
    rcases fin_N1 t with rfl | rfl | rfl | rfl | rfl | rfl | rfl | rfl | rfl | rfl <;> decide +kernel
  have ht : t.val < 10 := t.isLt
  funext j
  have hm : win1_0.moved (grid1.coords t) j = true := (win1_0.moved_iff _ _).mpr fun a => by rw [hx a]; exact (j a).isLt
  have h0 : (j 0).val < 160 := (j 0).isLt
  unfold Window.fill
  rw [dif_pos hm]
  refine congrArg X (funext fun a => Fin.ext ?_)
  match a with
  | ⟨0, _⟩ =>
    show win1_0.index t 0 * 160 + 1 * (j 0).val = (160 * t.val + (j 0).val) % 1600
    rw [hi.1]; omega
  | ⟨1, _⟩ =>
    show win1_0.index t 1 * 12288 + 1 * (j 1).val = (j 1).val
    rw [hi.2]; omega

/-- Any pair of a semaphore and an index whose level is at most that of the SparseCore call just done. -/
def lowPairs (c : Dev nD) : Set (SemLoc sig × HIx 1) :=
  {p | (K (F := F)).lev ((c : Thread nD τ), p.1) p.2 ≤ 8}

/-- The kernel's invariant before grid point `t`: its scratch buffers hold the running sums, and anything before the first. -/
def sumInv (X : S1600x16384.Idx → F .f32) (c : Dev nD) (n : Nat) : sProp 𝕄 :=
  iprop(∃ a : S16x12288.Idx → F .f32, ∃ b : S16x12288.Idx → F .f32,
    ⌜n ≠ 0 → a = sT X n ∧ b = qT X n⌝ ∗ tPt c s0M a ∗ tPt c s1M b)

/-- The pipeline's data: the field table at `X` and the result's array at `Y` on entry, each staging buffer after each
    point, the invariant, nothing owed. -/
def dat (X : S1600x16384.Idx → F .f32) (Y : S1x12288.Idx → F .f32) (c : Dev nD) :
    Dat τ (Elt F) (HIx 1) ℕ UU ℕ cfg1 c where
  A w := match w with
    | ⟨0, _⟩ => X
    | ⟨1, _⟩ => Y
  after w t := match w with
    | ⟨0, _⟩ => blkX X t.val
    | ⟨1, _⟩ => tcOut X
  Φ t := sumInv X c t.val
  q _ := fullShare
  owed _ := 0
  recorded _ := lowPairs (F := F) c

variable (X : S1600x16384.Idx → F .f32) (Y : S1x12288.Idx → F .f32)

/-- The body finds the ten fields in the first window's buffer. -/
theorem before_0 (c : Dev nD) (t : Fin cfg1.N) (d) : (dat X Y c).before (0 : Fin 2) t d = blkX X t.val := by
  unfold Dat.before; rw [if_pos (fetch1_0 t)]
  exact fill_blk X t d

theorem idle_1 (t : Fin cfg1.N) : idle1 (1 : Fin 2) (grid1.coords t) = !decide (t.val = 9) := by
  rcases fin_N1 t with rfl | rfl | rfl | rfl | rfl | rfl | rfl | rfl | rfl | rfl <;> decide +kernel
theorem cond_1 (t : Fin cfg1.N) : k1_cond1 (grid1.coords t) = 1#1 ↔ t.val = 9 := by
  rcases fin_N1 t with rfl | rfl | rfl | rfl | rfl | rfl | rfl | rfl | rfl | rfl <;> decide +kernel
theorem coord_1 (t : Fin cfg1.N) : (grid1.coords t 0).val = t.val := by
  rcases fin_N1 t with rfl | rfl | rfl | rfl | rfl | rfl | rfl | rfl | rfl | rfl <;> decide +kernel

/-- One point's step of the invariant. -/
theorem sum_step (k : Nat) (a b : S16x12288.Idx → F .f32) (h : k ≠ 0 → a = sT X k ∧ b = qT X k) :
    stepS k (blkX X k) a = sT X (k + 1) ∧ stepQ k (blkX X k) b = qT X (k + 1) := by
  by_cases hk : k = 0
  · subst hk; exact ⟨stepS_zero _ _ _, stepQ_zero _ _ _⟩
  · rw [(h hk).1, (h hk).2]; exact ⟨rfl, rfl⟩

/-- The pipeline's demand on the kernel, at each grid point. -/
theorem body_obligation (c : Dev nD) : BodyObligationLoose (dat X Y c) (defs₀ (F := F)) 𝒱₀ none Set.univ := fun t => by
  rw [bigSep_W1, bigSep_W1]
  simp only
  rw [show (dat X Y c).Φ t.castSucc = sumInv X c t.val from rfl, show (dat X Y c).Φ t.succ = sumInv X c (t.val + 1) from rfl,
    show (dat X Y c).owesAt none t.succ = (dat X Y c).owesAt none t.castSucc from rfl, idle_1 t]
  have hbody : ∀ (s : Fin 1) (d1 : S1x12288.Idx → F .f32) (a b) (Q : PUnit → sProp 𝕄),
      iprop(owns (c : Thread nD τ) (st1_0 t) fullShare (blkX X t.val) ∗ owns (c : Thread nD τ) (stage1_1 s) fullShare d1
          ∗ tPt c s0M a ∗ tPt c s1M b
          ∗ (iprop(owns (c : Thread nD τ) (st1_0 t) fullShare (blkX X t.val)
              ∗ owns (c : Thread nD τ) (stage1_1 s) fullShare (if t.val = 9 then lastR t.val (blkX X t.val) a b else d1)
              ∗ tPt c s0M (stepS t.val (blkX X t.val) a) ∗ tPt c s1M (stepQ t.val (blkX X t.val) b)) -∗ Q ⟨⟩))
        ⊢ wp frame (wpE (defs₀ (F := F)) 𝒱₀ c none) Set.univ
            (cc1_tck (grid1.coords t) (st1_0 t) (hstage1_0 ((cfg1.slots t 0).cast nbuf1_0)) (stage1_1 s) (hstage1_1 (s.cast nbuf1_1))
              s0M (Memref.isWhole_whole _) s1M (Memref.isWhole_whole _)) Q := by
    intro s d1 a b Q
    obtain rfl : s = 0 := Subsingleton.elim _ _
    have ho : ∀ f, (owns (c : Thread nD τ) (stage1_1 0) fullShare f : sProp 𝕄) = tPt c rM f := fun f => owns_whole _ _ _ _
    rw [ho, ho]
    have h := tc_body c Set.univ (grid1.coords t) (st1_0 t) (hstage1_0 ((cfg1.slots t 0).cast nbuf1_0))
      (Memref.isWhole_whole cc1_stg1_0) (blkX X t.val) d1 a b Q
    rw [coord_1 t] at h
    simp only [cond_1 t] at h
    exact h
  unfold sumInv
  iintro ⟨⟨%a, %b, %hab, Ha, Hb⟩, Ho, ⟨%d0, H0⟩, ⟨%d1, H1⟩⟩
  rw [before_0]
  iapply (hbody (cfg1.slots t 1) ((dat X Y c).before (1 : Fin 2) t d1) a b _)
  isplitl [H0]; · iexact H0
  isplitl [H1]; · iexact H1
  isplitl [Ha]; · iexact Ha
  isplitl [Hb]; · iexact Hb
  iintro ⟨H0, H1, Ha, Hb⟩
  isplitl [Ha Hb]
  · iexists _; iexists _; isplitr; · ipureintro; exact fun _ => sum_step X t.val a b hab
    isplitl [Ha] <;> iassumption
  isplitl [Ho]; · iexact Ho
  isplitl [H0]
  · iexists blkX X t.val
    have e : win1_0.fill (α := F .f32) (grid1.coords t) (blkX X t.val) (win1_0.cut (α := F .f32) (grid1.coords t) (blkX X t.val)) = blkX X t.val :=
      win1_0.fill_cut _ _
    iapply (Entails.of_eq (congrArg (fun f => (owns (c : Thread nD τ) (st1_0 t) fullShare f : sProp 𝕄)) e.symm))
    iexact H0
  by_cases ht : t.val = 9
  · rw [show (win1 1).flush t = true from (flush1_1 t).mpr (by omega), decide_eq_true ht]
    simp only [Bool.not_true, if_pos ht]
    rw [show (dat X Y c).after (1 : Fin 2) t = tcOut X from rfl, (hab (by omega)).1, (hab (by omega)).2, ht]
    iexact H1
  · rw [show (win1 1).flush t = false from Bool.eq_false_iff.mpr fun h => ht (by have := (flush1_1 t).mp h; have : t.val < 10 := t.isLt; omega),
      decide_eq_false ht]
    simp only [Bool.not_false, if_neg ht]
    iexists d1; iexact H1

/-! ## The arrays after the last point -/

theorem arrAt_x (c : Dev nD) (n : Nat) : (dat X Y c).arrAt (0 : Fin 2) n = X := (dat X Y c).arrAt_in 0 rfl n

/-- The result's array ends at what the last point stored. -/
theorem arrAt_r (c : Dev nD) : (dat X Y c).arrAt (1 : Fin 2) cfg1.N = tcOut X := by
  refine (dat X Y c).arrAt_eq_of_covers 1 (tcOut X) (by decide +kernel) fun t hf y => ?_
  have h9 : t.val = 9 := by have := (flush1_1 t).mp hf; have : t.val < 10 := t.isLt; omega
  refine congrArg (tcOut X) (funext fun a => Fin.ext ?_)
  match a with
  | ⟨0, _⟩ =>
    show (y 0).val = win1_1.index t 0 * 1 + 1 * (y 0).val
    rw [show win1_1.index t 0 = 0 from rfl]; omega
  | ⟨1, _⟩ =>
    show (y 1).val = win1_1.index t 1 * 12288 + 1 * (y 1).val
    rw [show win1_1.index t 1 = 0 from rfl]; omega

/-! ## The region -/

variable (XX : Dev nD → S1600x16384.Idx → F .f32) (YY : Dev nD → S1x12288.Idx → F .f32)

abbrev adm : (p : Fin 1) → (pcfgs (F := F) p).Adm := fun p => (cfgs p).toPCfg_adm

/-- The pipeline's data on each device. -/
def pdats : (p : Fin 1) → (c : Dev nD) → Dat τ (Elt F) (HIx 1) ℕ UU ℕ (Pipeline.pin (pcfgs (F := F)) adm p) c :=
  fun _ c => dat (XX c) (YY c) c

/-- The two arrays the pipeline works on: the field table, and the dense half's result. -/
abbrev tcArrs (c : Dev nD) (f : S1600x16384.Idx → F .f32) (g : S1x12288.Idx → F .f32) : sProp 𝕄 :=
  iprop((((c : Thread nD τ).loc main_v1) ↦{fullShare} f) ∗ (((c : Thread nD τ).loc main_v3) ↦{fullShare} g))

/-- The core owes nothing, and has waited on nothing above the SparseCore call just done. -/
abbrev owesLow (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
theorem arrays_pts (c : Dev nD) (G : (w : Fin 2) → Buf (Elt F) (((cfg1).win w).arr.view.loc (c : Thread nD τ))) :
    ((dat (XX c) (YY c) c).arrays G : sProp 𝕄) = tcArrs c (G 0) (G 1) := by
  have h := Pipeline.arrays_eq (Pipeline.pin (pcfgs (F := F)) adm) (pdats XX YY) 0 c launch1.arr_whole
    ((pdats XX YY 0 c).share_full fun _ => rfl) G
  refine h.trans ?_
  rw [bigSep_W1]

set_option backward.isDefEq.respectTransparency.types false in
/-- The dense half as a region: from the field table and the result's array, to the table as it was and the result. -/
def region : Pipeline.RegionSeg (pcfgs (F := F)) adm (pdats XX YY) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation (XX c) (YY c) c
  hwaits := Pipeline.hwaits_of_owed_zero _ _ _ _ _ _ 0 fun _ _ => rfl
  pre c := iprop(tcArrs c (XX c) (YY c) ∗ owesLow c)
  post c := iprop(tcArrs c (XX c) (tcOut (XX c)) ∗ owesLow c)
  X _ := BI.emp
  Y _ := BI.emp
  Z _ := BI.emp
  hentry c := by
    rw [Pipeline.ownSems0_none, Pipeline.prefHeld_of_none _ rfl]
    have e := arrays_pts XX YY c fun w => (dat (XX c) (YY c) c).arrAt w 0
    iintro ⟨⟨Ha, %W, %hW, HO⟩, -, -⟩
    imodintro
    isplitl [Ha]
    · iapply (Entails.of_eq e.symm); iexact Ha
    isplitr; · iempintro
    isplitl [HO]
    · unfold Pipeline.Dat.owesAt Pipeline.owesWithin
      iexists W; isplitr; · ipureintro; exact fun p hp => Or.inl (hW p hp)
      iexact HO
    isplitr <;> iempintro
  hin c := by
    rw [Pipeline.prefHeld_of_none _ rfl, show (pdats XX YY 0 c).Φ 0 = sumInv (XX c) c 0 from rfl, scopedRest1_eq]
    unfold sumInv
    iintro ⟨-, -, ⟨%f, Hf⟩, ⟨%g, Hg⟩⟩
    iexists f; iexists g
    isplitr; · ipureintro; exact fun h => absurd rfl h
    isplitl [Hf]; · iexact Hf
    iexact Hg
  hout c := by
    rw [Pipeline.ownSems0_none, show (pdats XX YY 0 c).Φ (Fin.last _) = sumInv (XX c) c 10 from rfl, scopedRest1_eq]
    unfold sumInv
    iintro ⟨%a, %b, -, Ha, Hb⟩
    isplitr; · iempintro
    isplitr; · iempintro
    isplitl [Ha]
    · iexists a; iexact Ha
    · iexists b; iexact Hb
  hexit c := by
    have e := arrays_pts XX YY c fun w => (dat (XX c) (YY c) c).arrAt w cfg1.N
    rw [arrAt_x, arrAt_r] at e
    iintro ⟨Ha, HO, -, -⟩
    imodintro
    isplitl [Ha]
    · iapply (Entails.of_eq e); iexact Ha
    unfold Pipeline.Dat.owesAt Pipeline.owesWithin
    icases HO with ⟨%W, %hW, HO⟩
    iexists W; isplitr
    · ipureintro
      intro p hp
      rcases hW hp with h | ⟨w, s, rfl⟩
      · exact h
      · exact Nat.zero_le _
    iexact HO

end Cert.Proof
-- ==== Proof.Main.lean ====
/-
  The whole program's run, over any float values: every weak execution terminates with the argument unchanged, every
  semaphore at zero and the result holding one value of the argument.
-/
module

public import proofs.«01_k».proof.Proof.Call
public import proofs.«01_k».proof.Proof.TcRegion
public import Idealize.ShloMosaic.Lib.SparseCore.Quiescent

@[expose] public section

set_option maxRecDepth 16384

noncomputable section

namespace Cert.Proof

open Cert.KernelIdeal Cert.KernelIdeal.Gen

open Idealize.ShloMosaic Idealize.ShloMosaic.ValueIdx
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Where the pipeline's rounds sit in the ghost state. -/
abbrev EP : Emb UP (MT nD τ sig (HIx 1) (Elt F) ℕ UU ℕ) := (Emb.inl : Emb UP (UP × Counters)).trans embR

variable [FloatOps F]

/-! ## The call of the dense half -/

/-- The pipeline's ghost state on device `d`, as the launch deals it. -/
abbrev tcGhost (d : Dev nD) : sProp 𝕄 :=
  iprop(Pipeline.cellsGhost (Pipeline.pin (pcfgs (F := F)) adm) EP 0 d ∗ Pipeline.toksInit (Pipeline.pin (pcfgs (F := F)) adm) EP 0 d)

/-- The call of the pipeline, as the program over the SparseCore calls' labels makes it. -/
theorem call_lift :
    (Prog.lift (.customCall (SparseCore.inner (Pipeline.entry 0)) ())
        : Prog (TpuEff nD τ sig (Elt F) (SparseCore.Sig (Pipeline.Sig Λ₀ (Fin 1) fun p => (pcfgs (F := F) p).Adm) 1) .tc) PUnit)
      = SparseCore.liftProg (Prog.lift (.customCall (Pipeline.entry 0) ())
        : Prog (TpuEff nD τ sig (Elt F) (Pipeline.Sig Λ₀ (Fin 1) fun p => (pcfgs (F := F) p).Adm) .tc) PUnit) := rfl

/-- The dense half's call: the table as it was, the result's array at the dense half's results, no debt left. -/
theorem tc_call [∀ e, Nonempty (Elt F e)] (XX : Dev nD → S1600x16384.Idx → F .f32) (YY : Dev nD → S1x12288.Idx → F .f32) (d : Dev nD) (Q : PUnit.{1} → sProp 𝕄) :
    iprop((iprop(boundary (d.tc : Thread nD τ) ∗ tcArrs d (XX d) (tcOut (XX d)) ∗ owesLow d) -∗ Q ⟨⟩)
        ∗ boundary (d.tc : Thread nD τ) ∗ (tcArrs d (XX d) (YY d) ∗ owesLow d) ∗ levAts (K (F := F)).L (K (F := F)).lev ∗ tcGhost d)
      ⊢ wp frame (wpE ((K (F := F)).defs (D (F := F))) 𝒱 (SparseCore.T d) none) Set.univ
          (Prog.lift (.customCall (SparseCore.inner (Pipeline.entry 0)) ())) Q := by
  rw [call_lift]
  have h0 := (K (F := F)).wp_liftProg (nD := nD) (Name := ℕ) (U := UU) (N := 1) (D (F := F)) 𝒱 (SparseCore.T d) Set.univ none
    (Prog.lift (.customCall (Pipeline.entry 0) ()) : Prog (TpuEff nD τ sig (Elt F) (Pipeline.Sig Λ₀ (Fin 1) fun p => (pcfgs (F := F) p).Adm) .tc) PUnit) Q
  have hinj : Function.Injective (Pipeline.cellOf (nD := nD) (τ := τ) (Pipeline.pin (pcfgs (F := F)) adm)) := launch1.cellOf_inj
  have h := Pipeline.RegionSeg.wp (pcfgs (F := F)) adm (pdats XX YY) (none : HIx 1) hinj EP defs₀ 𝒱₀ (K (F := F)).L (K (F := F)).lev
    (region XX YY) d none (fun u hu => absurd hu (Option.not_mem_none u)) (fun _ => .ret ⟨⟩) Q
  rw [show (region XX YY).pre d = iprop(tcArrs d (XX d) (YY d) ∗ owesLow d) from rfl,
    show (region XX YY).post d = iprop(tcArrs d (XX d) (tcOut (XX d)) ∗ owesLow d) from rfl] at h
  iintro ⟨HQ, Hb, Hpre, Hla, Hg, Ht⟩
  iapply h0
  iapply h
  isplitl [HQ]
  · iintro H
    rw [wp_ret]
    imodintro
    iapply HQ; iexact H
  isplitl [Hb]; · iexact Hb
  isplitl [Hpre]; · iexact Hpre
  isplitl [Hla]; · iexact Hla
  isplitl [Hg]; · iexact Hg
  iexact Ht

/-! ## The arrays, and what they hold along the program -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

abbrev opT : HloOp τ sig (Elt F) :=
  StableHlo.unary main_arg0 main_v0 ((transpose S100x16x16384 [1, 2, 0] · transposes_S16384x100x16_S100x16x16384_1_2_0) : (⟨S16384x100x16, .f32⟩ : BufTy).Contents (Elt F) → (⟨S100x16x16384, .f32⟩ : BufTy).Contents (Elt F))
abbrev opR1 : HloOp τ sig (Elt F) := StableHlo.reshape main_v0 main_v1 (rfl : (.f32 : EltTy) = .f32) shapeCasts_S100x16x16384_S1600x16384
abbrev opR4 : HloOp τ sig (Elt F) := StableHlo.reshape main_v3 main_v4 (rfl : (.f32 : EltTy) = .f32) shapeCasts_S1x12288_S12288
abbrev opC : HloOp τ sig (Elt F) :=
  StableHlo.binary main_v4 main_v2 main_v5 ((fun a b => concatenate S16384 0 [⟨S12288, a⟩, ⟨S4096, b⟩] concatenates_S12288_S4096_S16384_d0) : (⟨S12288, .f32⟩ : BufTy).Contents (Elt F) → (⟨S4096, .f32⟩ : BufTy).Contents (Elt F) → (⟨S16384, .f32⟩ : BufTy).Contents (Elt F))
abbrev opR6 : HloOp τ sig (Elt F) := StableHlo.reshape main_v5 main_v6 (rfl : (.f32 : EltTy) = .f32) shapeCasts_S16384_S16384x1

/-- The TensorCore's arrays. -/
abbrev S8 : Finset (DevRef τ sig) := {a0', v0', v1', v2', v3', v4', v5', v6'}

theorem hT : (opT (F := F)).bufs ⊆ S8 := show ({a0', v0'} : Finset (DevRef τ sig)) ⊆ S8 by decide
theorem hR1 : (opR1 (F := F)).bufs ⊆ S8 := show ({v0', v1'} : Finset (DevRef τ sig)) ⊆ S8 by decide
theorem hR4 : (opR4 (F := F)).bufs ⊆ S8 := show ({v3', v4'} : Finset (DevRef τ sig)) ⊆ S8 by decide
theorem hC : (opC (F := F)).bufs ⊆ S8 := show ({v4', v2', v5'} : Finset (DevRef τ sig)) ⊆ S8 by decide
theorem hR6 : (opR6 (F := F)).bufs ⊆ S8 := show ({v5', v6'} : Finset (DevRef τ sig)) ⊆ S8 by decide

theorem held_S8 (d : Dev nD) (W : Valuation τ sig (Elt F)) :
    (held (T d) S8 W : sProp 𝕄)
      = iprop(((SparseCore.T d).loc main_arg0 ↦{fullShare} W a0') ∗ ((SparseCore.T d).loc main_v0 ↦{fullShare} W v0')
          ∗ ((SparseCore.T d).loc main_v1 ↦{fullShare} W v1') ∗ ((SparseCore.T d).loc main_v2 ↦{fullShare} W v2')
          ∗ ((SparseCore.T d).loc main_v3 ↦{fullShare} W v3') ∗ ((SparseCore.T d).loc main_v4 ↦{fullShare} W v4')
          ∗ ((SparseCore.T d).loc main_v5 ↦{fullShare} W v5') ∗ (SparseCore.T d).loc main_v6 ↦{fullShare} W v6') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_v0 ↦{fullShare} W main_v0)
          ∗ ((SparseCore.T d).loc main_v1 ↦{fullShare} W main_v1) ∗ ((SparseCore.T d).loc main_v2 ↦{fullShare} W main_v2)
          ∗ ((SparseCore.T d).loc main_v3 ↦{fullShare} W main_v3) ∗ ((SparseCore.T d).loc main_v4 ↦{fullShare} W main_v4)
          ∗ ((SparseCore.T d).loc main_v5 ↦{fullShare} W main_v5) ∗ (SparseCore.T d).loc main_v6 ↦{fullShare} W main_v6) := by
  unfold unscopedBufs
  rw [show (Finset.univ.filter fun b : Ref sig .tc => ¬ b.isScoped)
      = {main_arg0, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v6

/-- At the launch, and before the calls: the argument transposed, and as the field table. -/
def W0 (d : Dev nD) : Valuation τ sig (Elt F) := fun b => m (d, b)
def W2 (d : Dev nD) : Valuation τ sig (Elt F) := (opR1 (F := F)).result ((opT (F := F)).result (W0 m d))

/-- The field table. -/
def tbl (a : S16384x100x16.Idx → F .f32) : S1600x16384.Idx → F .f32 :=
  shapeCast S1600x16384 (transpose S100x16x16384 [1, 2, 0] a transposes_S16384x100x16_S100x16x16384_1_2_0) shapeCasts_S100x16x16384_S1600x16384
/-- The program's result, of its argument. -/
def res (a : S16384x100x16.Idx → F .f32) : S16384x1.Idx → F .f32 :=
  shapeCast S16384x1 (concatenate S16384 0 [⟨S12288, shapeCast S12288 (tcOut (tbl a)) shapeCasts_S1x12288_S12288⟩, ⟨S4096, oVal (tbl a)⟩]
    concatenates_S12288_S4096_S16384_d0) shapeCasts_S16384_S16384x1

abbrev argOf (d : Dev nD) : S16384x100x16.Idx → F .f32 := m (aLoc d)
def xf (d : Dev nD) : S1600x16384.Idx → F .f32 := tbl (argOf m d)
def fo (d : Dev nD) : S4096.Idx → F .f32 := m (oLoc d)
def yo (d : Dev nD) : S1x12288.Idx → F .f32 := m ((SparseCore.T d).loc main_v3)

/-- After the two calls, and at the end. -/
def W4 (d : Dev nD) : Valuation τ sig (Elt F) :=
  Function.update (Function.update (W2 m d) v2' (oVal (xf m d))) v3' (tcOut (xf m d))
def W7 (d : Dev nD) : Valuation τ sig (Elt F) := (opR6 (F := F)).result ((opC (F := F)).result ((opR4 (F := F)).result (W4 m d)))

theorem unscoped_held (d : Dev nD) : (unscopedBufs d (fun b => m ((SparseCore.T d).loc b)) : sProp 𝕄) = held (T d) S8 (W0 m d) := by
  rw [unscopedBufs_eq, held_S8]; rfl

theorem W2_of_not_mem (d : Dev nD) {b : DevRef τ sig} (h : b ∉ ({v0', v1'} : Finset (DevRef τ sig))) : W2 m d b = W0 m d b := by
  unfold W2
  rw [(opR1 (F := F)).result_of_not_mem _ (show b ∉ ({v1'} : Finset (DevRef τ sig)) from fun k => h (by simp only [Finset.mem_insert]; exact Or.inr k)),
    (opT (F := F)).result_of_not_mem _ (show b ∉ ({v0'} : Finset (DevRef τ sig)) from fun k => h (Finset.mem_insert.mpr (Or.inl (Finset.mem_singleton.mp k))))]
theorem W2_arg (d : Dev nD) : W2 m d a0' = m (aLoc d) := W2_of_not_mem m d (by decide)
theorem W2_v2 (d : Dev nD) : W2 m d v2' = fo m d := W2_of_not_mem m d (by decide)
theorem W2_v3 (d : Dev nD) : W2 m d v3' = yo m d := W2_of_not_mem m d (by decide)
theorem W2_v1 (d : Dev nD) : W2 m d v1' = xf m d := by
  unfold W2
  refine (StableHlo.reshape_result _ _ _ _ _ _ _).trans ?_
  rw [show (opT (F := F)).result (W0 m d) v0' = _ from StableHlo.unary_result _ _ _ _ _ _]
  rfl

theorem W4_v3 (d : Dev nD) : W4 m d v3' = tcOut (xf m d) := Function.update_self _ _ _
theorem W4_v2 (d : Dev nD) : W4 m d v2' = oVal (xf m d) := (Function.update_of_ne (show v2' ≠ v3' by decide) _ _).trans (Function.update_self _ _ _)
theorem W4_of_ne (d : Dev nD) {b : DevRef τ sig} (h3 : b ≠ v3') (h2 : b ≠ v2') : W4 m d b = W2 m d b :=
  (Function.update_of_ne h3 _ _).trans (Function.update_of_ne h2 _ _)

theorem W7_arg (d : Dev nD) : W7 m d a0' = m (aLoc d) := by
  unfold W7
  rw [(opR6 (F := F)).result_of_not_mem _ (show a0' ∉ ({v6'} : Finset (DevRef τ sig)) by decide),
    (opC (F := F)).result_of_not_mem _ (show a0' ∉ ({v5'} : Finset (DevRef τ sig)) by decide),
    (opR4 (F := F)).result_of_not_mem _ (show a0' ∉ ({v4'} : Finset (DevRef τ sig)) by decide),
    W4_of_ne m d (by decide) (by decide), W2_arg]
theorem W7_res (d : Dev nD) : W7 m d v6' = res (argOf m d) := by
  unfold W7
  refine (StableHlo.reshape_result _ _ _ _ _ _ _).trans ?_
  rw [show (opC (F := F)).result ((opR4 (F := F)).result (W4 m d)) v5' = _ from StableHlo.binary_result _ _ _ _ _ _ _ _,
    show (opR4 (F := F)).result (W4 m d) v4' = _ from StableHlo.reshape_result _ _ _ _ _ _ _,
    (opR4 (F := F)).result_of_not_mem _ (show v2' ∉ ({v4'} : Finset (DevRef τ sig)) by decide), W4_v3, W4_v2]
  rfl

/-! ## The launch's ghost state -/

abbrev PM : (K (F := F)).Pay (nD := nD) (Val := Elt F) (Name := ℕ) (U := UU) := P (xf m) (fo m)

theorem pin_inj : Function.Injective (Pipeline.cellOf (nD := nD) (τ := τ) (Pipeline.pin (pcfgs (F := F)) adm)) := launch1.cellOf_inj

/-- The handshakes' rounds and the pipeline's, at their start. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem bigSep_emp' {I : Type} (s : Finset I) : (bigSep s fun _ => iprop(emp)) = (iprop(emp) : sProp 𝕄) := bigSep_emp_const s

/-- The one pipeline's ghost state, device by device. -/
theorem deal_ghost :
    iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => (Pipeline.toksInit (Pipeline.pin (pcfgs (F := F)) adm) EP p c : sProp 𝕄)))
      ⊢ bigSep Finset.univ fun d : Dev nD => tcGhost (F := F) d := by
  refine Entails.of_eq ?_
  rw [bigSep_sep']
  congr 1 <;> exact bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => tcGhost (F := F) d)
        ∗ bigSep Finset.univ fun thr : Thread nD τ => bigSep Finset.univ fun q : Fin 1 => (PM m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP pin_inj) $$ HP with ⟨Hg, Ht⟩
  imodintro
  isplitl [HH]; · iexact HH
  isplitl [Hg Ht]
  · iapply deal_ghost
    isplitl [Hg]; · iexact Hg
    iexact Ht
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), bigSep_emp']
  iempintro

/-! ## @main on the TensorCore -/

/-- What @main leaves the claims: the argument as it was, the result. -/
abbrev FIN (d : Dev nD) : sProp 𝕄 :=
  iprop((aLoc d ↦{fullShare} m (aLoc d)) ∗ rLoc d ↦{fullShare} (show Buf (Elt F) (rLoc d) from res (argOf m d)))

theorem held_W2 (d : Dev nD) :
    (held (T d) S8 ((opR1 (F := F)).result ((opT (F := F)).result (W0 m d))) : sProp 𝕄)
      = iprop(((SparseCore.T d).loc main_arg0 ↦{fullShare} W2 m d a0') ∗ ((SparseCore.T d).loc main_v0 ↦{fullShare} W2 m d v0')
          ∗ (xPts d fullShare (xf m d)) ∗ (oLoc d ↦{fullShare} (show Buf (Elt F) (oLoc d) from fo m d))
          ∗ ((SparseCore.T d).loc main_v3 ↦{fullShare} (show Buf (Elt F) ((SparseCore.T d).loc main_v3) from yo m d)) ∗ ((SparseCore.T d).loc main_v4 ↦{fullShare} W2 m d v4')
          ∗ ((SparseCore.T d).loc main_v5 ↦{fullShare} W2 m d v5') ∗ (SparseCore.T d).loc main_v6 ↦{fullShare} W2 m d v6') := by
  show held (SparseCore.T d) S8 (W2 m d) = _
  rw [held_S8, W2_v1, W2_v2, W2_v3]
theorem held_W4 (d : Dev nD) :
    (held (T d) S8 (W4 m d) : sProp 𝕄)
      = iprop(((SparseCore.T d).loc main_arg0 ↦{fullShare} W2 m d a0') ∗ ((SparseCore.T d).loc main_v0 ↦{fullShare} W2 m d v0')
          ∗ (xPts d fullShare (xf m d)) ∗ (oLoc d ↦{fullShare} (show Buf (Elt F) (oLoc d) from oVal (xf m d)))
          ∗ ((SparseCore.T d).loc main_v3 ↦{fullShare} (show Buf (Elt F) ((SparseCore.T d).loc main_v3) from tcOut (xf m d))) ∗ ((SparseCore.T d).loc main_v4 ↦{fullShare} W2 m d v4')
          ∗ ((SparseCore.T d).loc main_v5 ↦{fullShare} W2 m d v5') ∗ (SparseCore.T d).loc main_v6 ↦{fullShare} W2 m d v6') := by
  rw [held_S8, W4_v3, W4_v2, W4_of_ne m d (b := a0') (by decide) (by decide), W4_of_ne m d (b := v0') (by decide) (by decide),
    W4_of_ne m d (b := v1') (by decide) (by decide), W4_of_ne m d (b := v4') (by decide) (by decide),
    W4_of_ne m d (b := v5') (by decide) (by decide), W4_of_ne m d (b := v6') (by decide) (by decide), W2_v1]
theorem held_W7 (d : Dev nD) :
    (held (T d) S8 ((opR6 (F := F)).result ((opC (F := F)).result ((opR4 (F := F)).result (W4 m d)))) : sProp 𝕄)
      ⊢ FIN m d := by
  show (held (SparseCore.T d) S8 (W7 m d) : sProp 𝕄) ⊢ FIN m d
  rw [held_S8, W7_arg, W7_res]
  iintro ⟨Ha, -, -, -, -, -, -, Hr⟩
  isplitl [Ha]; · iexact Ha
  iexact Hr

/-- @main on device `d`'s TensorCore: the transpose and the reshape, the SparseCore's call, the dense half's, and the
    results put side by side. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ tcGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, Hgh⟩
  iapply (wp_hlo_within 𝒱 (SparseCore.T d) none Set.univ (op := opT) (S := S8) hT (V := W0 m d)) $$ [Hb Hheld]
  · isplitl [Hb] <;> iassumption
  iintro ⟨Hb, Hheld⟩
  rw [wp_ret]; imodintro
  iapply (wp_hlo_within 𝒱 (SparseCore.T d) none Set.univ (op := opR1) (S := S8) hR1 (V := (opT (F := F)).result (W0 m d))) $$ [Hb Hheld]
  · isplitl [Hb] <;> iassumption
  iintro ⟨Hb, Hheld⟩
  rw [wp_ret]; imodintro
  ihave Hh := (Entails.of_eq (held_W2 (F := F) m d)) $$ Hheld
  icases Hh with ⟨Ha, H0, Hx, Ho, H3, H4, H5, H6⟩
  -- the SparseCore's call
  iapply ((K (F := F)).wp_run (D (F := F)) 𝒱 (EH := EH) (P := PM m) κ d 0) $$ [Hst Hx Ho Hb Ha H0 H3 H4 H5 H6 Hts Hgh]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq (xf m) (fo m) d)) $$ Hdn
  icases Hdn' with ⟨Hx, Ho⟩
  -- the dense half's
  ihave Hlev := ((K (F := F)).ctx_levAts κ) $$ Hctx
  unfold SparseCore.Cfg.tcSt
  icases Hst with ⟨⟨%W, %hW, HO⟩, Hrest⟩
  rw [(K (F := F)).Otc_end d (n := 1) (le_refl 1), (K (F := F)).Otc_end d (n := (0 : Fin 1).val + 1) (le_refl 1)]
  iapply (tc_call (xf m) (yo m) d _)
  isplitr [Hb Hx H3 HO Hgh]
  · iintro ⟨Hb, ⟨Hx, H3⟩, %W', %hW', HO⟩
    iapply (wp_hlo_within 𝒱 (SparseCore.T d) none Set.univ (op := opR4) (S := S8) hR4 (V := W4 m d)) $$ [Hb Ha H0 Hx Ho H3 H4 H5 H6]
    · isplitl [Hb]; · iexact Hb
      rw [held_W4]
      isplitl [Ha]; · iexact Ha
      isplitl [H0]; · iexact H0
      isplitl [Hx]; · iexact Hx
      isplitl [Ho]; · iexact Ho
      isplitl [H3]; · iexact H3
      isplitl [H4]; · iexact H4
      isplitl [H5]; · iexact H5
      iexact H6
    iintro ⟨Hb, Hheld⟩
    rw [wp_ret]; imodintro
    iapply (wp_hlo_within 𝒱 (SparseCore.T d) none Set.univ (op := opC) (S := S8) hC (V := (opR4 (F := F)).result (W4 m d))) $$ [Hb Hheld]
    · isplitl [Hb] <;> iassumption
    iintro ⟨Hb, Hheld⟩
    rw [wp_ret]; imodintro
    iapply (wp_hlo_within 𝒱 (SparseCore.T d) none Set.univ (op := opR6) (S := S8) hR6 (V := (opC (F := F)).result ((opR4 (F := F)).result (W4 m d)))) $$ [Hb Hheld]
    · isplitl [Hb] <;> iassumption
    iintro ⟨Hb, Hheld⟩
    rw [wp_ret]; imodintro; imodintro
    isplitl [HO Hrest]
    · isplitl [HO]
      · iexists W'; isplitr; · ipureintro; exact hW'
        iexact HO
      iexact Hrest
    isplitl [Hheld]; · iapply (held_W7 m d); iexact Hheld
    isplitl [Hb] <;> iassumption
  isplitl [Hb]; · iexact Hb
  isplitl [Hx H3 HO]
  · isplitl [Hx H3]
    · isplitl [Hx]; · iexact Hx
      iexact H3
    iexists W; isplitr; · ipureintro; exact hW
    iexact HO
  isplitr; · iexact Hlev
  iexact Hgh

/-! ## The program's run -/

/-- What the claims read of device `d`'s final state: the argument and the result. -/
def fq (d : Dev nD) (s' : Phys nD τ sig (Elt F)) : Prop := s'.mem.mem (aLoc d) = m (aLoc d) ∧ s'.mem.mem (rLoc d) = res (argOf m d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := (show Buf (Elt F) (rLoc d) from res (argOf m d)))) $$ [HSI Hr]
  · isplitl [HSI] <;> iassumption
  icases H with %hr
  ipureintro; exact ⟨funext fun i => ha i (Finset.mem_univ i), funext fun i => hr i (Finset.mem_univ i)⟩

def QC : PUnit × MemSt nD τ sig (Elt F) → Prop :=
  fun r => (∀ c : Dev nD, r.2.mem (aLoc c) = m (aLoc c) ∧ r.2.mem (rLoc c) = res (argOf m c)) ∧ r.2.sem = fun _ => 0

/-- The program's run: from any memory every weak execution terminates, the argument unchanged, the result `res` of the
    argument, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (xf m) (fo m))
    (fun q _ => match q with | 0 => SparseCore.Cfg.VecSplit.of_plain (vecSplit (xf m) (fo m)))
    m ρ main (fun d => tcGhost d) (FIN m) (u₀ (F := F)) (sep_elim_left.trans (hu₀ m)) (hmain m ρ) (fq m) (hfin m) (QC m) (fun _ h hz => ⟨h, hz⟩)

end Cert.Proof
-- ==== Proof.PoolMath.lean ====
/-
  The pooling over the extended reals, as sums over a table of fields: its two spellings agree, whatever the numbers.
-/
module

public import proofs.«01_k».proof.KernelIdeal
public import Idealize.ShloMosaic.Lib.ValueIdx
public import Idealize.ShloMosaic.PureOps.Ideal
public import Idealize.ShloMosaic.PureOps.Ideal.Laws
public import Mathlib.Data.EReal.Operations
public import Mathlib.Algebra.BigOperators.Intervals

@[expose] public section

noncomputable section

namespace Cert.Proof

open Cert.KernelIdeal

open Idealize.ShloMosaic Idealize.ShloMosaic.ValueIdx
open Finset (range)

/-! ## Extended reals -/

/-- A square is not negative. -/
theorem square_nonneg (x : EReal) : 0 ≤ x * x :=
  EReal.mul_nonneg_iff.mpr ((le_total 0 x).imp (fun h => ⟨h, h⟩) fun h => ⟨h, h⟩)

/-- A sum of numbers that are not negative is not negative. -/
theorem sum_nonneg' {n : Nat} (f : Nat → EReal) (h : ∀ i, 0 ≤ f i) : 0 ≤ ∑ i ∈ range n, f i :=
  Finset.sum_nonneg fun i _ => h i

/-- Subtracting term by term is subtracting the sums, where what is subtracted is not negative. -/
theorem sum_sub (n : Nat) (f g : Nat → EReal) (hg : ∀ i, 0 ≤ g i) :
    ∑ i ∈ range n, (f i - g i) = ∑ i ∈ range n, f i - ∑ i ∈ range n, g i := by
  induction n with
  | zero => simp
  | succ n ih =>
    have hn : (∑ i ∈ range n, g i) ≠ ⊥ := ((EReal.bot_lt_zero).trans_le (sum_nonneg' g hg)).ne'
    have hg' : g n ≠ ⊥ := ((EReal.bot_lt_zero).trans_le (hg n)).ne'
    rw [Finset.sum_range_succ, Finset.sum_range_succ, Finset.sum_range_succ, ih, sub_eq_add_neg, sub_eq_add_neg, sub_eq_add_neg,
      EReal.neg_add (.inl hn) (.inr hg'), sub_eq_add_neg]
    exact add_add_add_comm _ _ _ _

/-- Four sums, the first of them from `a` and the others from zero. -/
theorem four_sums (n : Nat) (a : EReal) (u v w x : Nat → EReal) :
    ((a + ∑ j ∈ range n, u j) + (0 + ∑ j ∈ range n, v j)) + ((0 + ∑ j ∈ range n, w j) + (0 + ∑ j ∈ range n, x j))
      = a + ∑ j ∈ range n, (u j + v j + w j + x j) := by
  rw [Finset.sum_add_distrib, Finset.sum_add_distrib, Finset.sum_add_distrib]
  simp only [zero_add, add_assoc]

/-- One half, as the float word that both programs write. -/
def half : EReal := Ideal.ofBits .f32 0x3F000000#32

theorem half_eq : half = ((1 / 2 : ℝ) : EReal) := by
  have h1 : ((0x3F000000#32).extractLsb' (8 + 23) 1 == 1#1) = false := by decide
  have h2 : ((0x3F000000#32).extractLsb' 23 8).toNat = 126 := by decide
  have h3 : ((0x3F000000#32).extractLsb' 0 23).toNat = 0 := by decide
  show Ideal.ieee 8 23 (0x3F000000#32) = _
  unfold Ideal.ieee
  simp only [h1, h2, h3]
  norm_num

theorem half_nonneg : 0 ≤ half := by rw [half_eq]; exact EReal.coe_nonneg.mpr (by norm_num)
theorem half_ne_top : half ≠ ⊤ := by rw [half_eq]; exact EReal.coe_ne_top _

/-- Halving term by term is halving the sum. -/
theorem sum_half (n : Nat) (f : Nat → EReal) : ∑ i ∈ range n, f i * half = (∑ i ∈ range n, f i) * half := by
  induction n with
  | zero => simp
  | succ n ih => rw [Finset.sum_range_succ, Finset.sum_range_succ, ih, EReal.right_distrib_of_nonneg_of_ne_top half_nonneg half_ne_top]

/-! ## The pooling of a field table -/

variable (X : S1600x16384.Idx → EReal)

/-- Entry `(r, c)` of the table: row `16 f + t` is entry `t` of field `f`, the column the sample. -/
def xN (r c : Nat) : EReal := X (ix2 ⟨r % 1600, Nat.mod_lt _ (by decide)⟩ ⟨c % 16384, Nat.mod_lt _ (by decide)⟩)

/-- The sum of entry `t` of the first `n` fields, and the sum of their squares. -/
def fSum (n t c : Nat) : EReal := ∑ j ∈ range n, xN X (16 * j + t) c
def fSq (n t c : Nat) : EReal := ∑ j ∈ range n, xN X (16 * j + t) c * xN X (16 * j + t) c

/-- The pooling of sample `c`: half of the squared sums' sum less the squares' sum. -/
def pool (c : Nat) : EReal := (∑ t ∈ range 16, fSum X 100 t c * fSum X 100 t c - ∑ t ∈ range 16, fSq X 100 t c) * half

/-- The pooling, entry by entry: half of each squared sum less its squares, summed. -/
theorem pool_eq (c : Nat) :
    ∑ t ∈ range 16, (fSum X 100 t c * fSum X 100 t c - fSq X 100 t c) * half = pool X c := by
  have h (t : Nat) : 0 ≤ fSq X 100 t c := sum_nonneg' _ fun j => square_nonneg _
  rw [sum_half, sum_sub 16 _ (fun t => fSq X 100 t c) h]; rfl

/-- The squares may be summed entry by entry within each field. -/
theorem fSq_comm (n c : Nat) :
    ∑ t ∈ range 16, fSq X n t c = ∑ j ∈ range n, ∑ t ∈ range 16, xN X (16 * j + t) c * xN X (16 * j + t) c :=
  Finset.sum_comm

/-- Ten fields more. -/
theorem fSum_add (n k t c : Nat) : fSum X (n + k) t c = fSum X n t c + ∑ j ∈ range k, xN X (16 * (n + j) + t) c :=
  Finset.sum_range_add _ n k
theorem fSq_add (n k t c : Nat) :
    fSq X (n + k) t c = fSq X n t c + ∑ j ∈ range k, xN X (16 * (n + j) + t) c * xN X (16 * (n + j) + t) c :=
  Finset.sum_range_add _ n k

end Cert.Proof

end
-- ==== Proof.PoolTc.lean ====
/-
  The dense half over the extended reals: what its last grid point stores is the pooling of the first 12288 samples.
-/
module

public import proofs.«01_k».proof.Proof.TcRegion
public import proofs.«01_k».proof.Proof.PoolMath
public import Idealize.ShloMosaic.Lib.Pointwise

@[expose] public section

set_option maxRecDepth 16384

noncomputable section

namespace Cert.Proof

open Cert.KernelIdeal Cert.KernelIdeal.Gen

open Idealize.ShloMosaic hiding ix1 ix2
open Idealize.ShloMosaic.ValueIdx
open Finset (range)

/-- The sum of the ten staged fields, and the sum of their squares, in the kernel's order. -/
def ten (B : S160x12288.Idx → EReal) : S16x12288.Idx → EReal := fun l =>
  rows (F := Ideal) B 0 l + rows (F := Ideal) B 1 l + rows (F := Ideal) B 2 l + rows (F := Ideal) B 3 l + rows (F := Ideal) B 4 l
    + rows (F := Ideal) B 5 l + rows (F := Ideal) B 6 l + rows (F := Ideal) B 7 l + rows (F := Ideal) B 8 l + rows (F := Ideal) B 9 l
def tenSq (B : S160x12288.Idx → EReal) : S16x12288.Idx → EReal := ten fun l => B l * B l

/-- Whether a grid point is the first. -/
theorem point_zero : ∀ k < 10, Scalar.cmpi .eq (BitVec.ofNat 32 k) 0#32 = if k = 0 then 1#1 else 0#1 := by decide

/-- A grid point adds its ten fields, the first one to nothing. -/
theorem pay2_apply (k : Nat) (hk : k < 10) (B : S160x12288.Idx → EReal) (a : S16x12288.Idx → EReal) (l : S16x12288.Idx) :
    k1_pay2 (F := Ideal) (BitVec.ofNat 32 k) (sum9 (F := Ideal) B) (rows (F := Ideal) B 9) a l = if k = 0 then ten B l else a l + ten B l := by
  have e : k1_pay2 (F := Ideal) (BitVec.ofNat 32 k) (sum9 (F := Ideal) B) (rows (F := Ideal) B 9) a l
      = (Scalar.select (Scalar.cmpi .eq (BitVec.ofNat 32 k) 0#32) (ten B) (fun l => a l + ten B l) : S16x12288.Idx → EReal) l := by
    simp only [k1_pay2, sum9, k1_pay17, k1_pay1, k1_pay7, k1_pay8, k1_pay9, k1_pay10, k1_pay11, k1_pay12, k1_pay13, k1_pay14, k1_pay16, shapeCast_self]
    rfl
  rw [e, point_zero k hk]
  split <;> rfl

/-- The same of the squares. -/
theorem pay3_apply (k : Nat) (hk : k < 10) (B : S160x12288.Idx → EReal) (b : S16x12288.Idx → EReal) (l : S16x12288.Idx) :
    k1_pay3 (F := Ideal) (BitVec.ofNat 32 k) (sq8 (F := Ideal) B) (k1_pay16 (F := Ideal) (rows (F := Ideal) B 8)) (rows (F := Ideal) B 9) b l
      = if k = 0 then tenSq B l else b l + tenSq B l := by
  have e : k1_pay3 (F := Ideal) (BitVec.ofNat 32 k) (sq8 (F := Ideal) B) (k1_pay16 (F := Ideal) (rows (F := Ideal) B 8)) (rows (F := Ideal) B 9) b l
      = (Scalar.select (Scalar.cmpi .eq (BitVec.ofNat 32 k) 0#32) (tenSq B) (fun l => b l + tenSq B l) : S16x12288.Idx → EReal) l := by
    simp only [k1_pay3, sq8, k1_pay15, k1_pay1, k1_pay7, k1_pay8, k1_pay9, k1_pay10, k1_pay11, k1_pay12, k1_pay13, k1_pay14, k1_pay16, shapeCast_self]
    rfl
  rw [e, point_zero k hk]
  split <;> rfl

/-- The running sums after a grid point. -/
theorem stepS_apply (k : Nat) (hk : k < 10) (B : S160x12288.Idx → EReal) (a : S16x12288.Idx → EReal) (l : S16x12288.Idx) :
    stepS (F := Ideal) k B a l = if k = 0 then ten B l else a l + ten B l :=
  (congrFun (shapeCast_self _ _) l).trans (pay2_apply k hk B a l)
theorem stepQ_apply (k : Nat) (hk : k < 10) (B : S160x12288.Idx → EReal) (b : S16x12288.Idx → EReal) (l : S16x12288.Idx) :
    stepQ (F := Ideal) k B b l = if k = 0 then tenSq B l else b l + tenSq B l :=
  (congrFun (shapeCast_self _ _) l).trans (pay3_apply k hk B b l)

variable (X : S1600x16384.Idx → EReal)

/-- An entry of a staged field is the table's. -/
theorem rows_blk (k : Nat) (hk : k < 10) (j : Fin 10) (l : S16x12288.Idx) :
    rows (F := Ideal) (blkX (F := Ideal) X k) j l = xN X (16 * (10 * k + j.val) + (l 0).val) (l 1).val := by
  have h1 : (l 1).val < 12288 := (l 1).isLt
  refine congrArg X (funext fun a => ?_)
  match a with
  | ⟨0, _⟩ => exact Fin.ext (show (160 * k + (16 * j.val + (l 0).val)) % 1600 = (16 * (10 * k + j.val) + (l 0).val) % 1600 by congr 1; omega)
  | ⟨1, _⟩ => exact Fin.ext (show (l 1).val = (l 1).val % 16384 by omega)

/-- Ten staged fields' sum is the table's. -/
theorem ten_blk (k : Nat) (hk : k < 10) (l : S16x12288.Idx) :
    ten (blkX (F := Ideal) X k) l = ∑ j ∈ range 10, xN X (16 * (10 * k + j) + (l 0).val) (l 1).val := by
  unfold ten
  simp only [rows_blk X k hk, Finset.sum_range_succ, Finset.sum_range_zero, zero_add]
  rfl

/-- Ten staged fields' squares' sum is the table's. -/
theorem tenSq_blk (k : Nat) (hk : k < 10) (l : S16x12288.Idx) :
    tenSq (blkX (F := Ideal) X k) l
      = ∑ j ∈ range 10, xN X (16 * (10 * k + j) + (l 0).val) (l 1).val * xN X (16 * (10 * k + j) + (l 0).val) (l 1).val := by
  have e (j : Fin 10) : rows (F := Ideal) (fun l => blkX (F := Ideal) X k l * blkX (F := Ideal) X k l) j l
      = rows (F := Ideal) (blkX (F := Ideal) X k) j l * rows (F := Ideal) (blkX (F := Ideal) X k) j l := rfl
  unfold tenSq ten
  simp only [e, rows_blk X k hk, Finset.sum_range_succ, Finset.sum_range_zero, zero_add]
  rfl

/-- After `n` grid points the first running sum is that of the first `10 n` fields. -/
theorem sT_val : ∀ n, n ≤ 10 → ∀ l : S16x12288.Idx, sT (F := Ideal) X n l = fSum X (10 * n) (l 0).val (l 1).val
  | 0, _, l => by
    show Ideal.ofBits .f32 0x00000000#32 = _
    rw [Ideal.ofBits_zero_f32]; rfl
  | n + 1, h, l => by
    have e : sT (F := Ideal) X (n + 1) l = _ := stepS_apply n (by omega) _ _ l
    rw [e, ten_blk X n (by omega), show 10 * (n + 1) = 10 * n + 10 by omega, fSum_add, ← sT_val n (by omega) l]
    split
    · rename_i h0; subst h0
      rw [sT_val 0 (by omega) l]; exact (zero_add _).symm
    · rfl

/-- The second one is that of their squares. -/
theorem qT_val : ∀ n, n ≤ 10 → ∀ l : S16x12288.Idx, qT (F := Ideal) X n l = fSq X (10 * n) (l 0).val (l 1).val
  | 0, _, l => by
    show Ideal.ofBits .f32 0x00000000#32 = _
    rw [Ideal.ofBits_zero_f32]; rfl
  | n + 1, h, l => by
    have e : qT (F := Ideal) X (n + 1) l = _ := stepQ_apply n (by omega) _ _ l
    rw [e, tenSq_blk X n (by omega), show 10 * (n + 1) = 10 * n + 10 by omega, fSq_add, ← qT_val n (by omega) l]
    split
    · rename_i h0; subst h0
      rw [qT_val 0 (by omega) l]; exact (zero_add _).symm
    · rfl

/-- What the last grid point stores: half of the squared sums' sum less the squares' sum. -/
theorem lastR_apply (k : Nat) (B : S160x12288.Idx → EReal) (a b : S16x12288.Idx → EReal) (c : Fin 12288) :
    lastR (F := Ideal) k B a b (ix2 0 c)
      = (∑ t : Fin 16, stepS (F := Ideal) k B a (ix2 t c) * stepS (F := Ideal) k B a (ix2 t c) - ∑ t : Fin 16, stepQ (F := Ideal) k B b (ix2 t c)) * half := by
  unfold lastR stepS stepQ k1_pay4 k1_pay5 k1_pay6
  rw [shapeCast_self, shapeCast_self]
  refine (shapeCast_apply (s := S12288) (t := S1x12288) _ _ (ix2 0 c) (ix1 c) (by rw [Shape.rowMajor_val_two, Shape.rowMajor_val_one]; simp)).trans ?_
  exact congrArg₂ (fun p q : EReal => (p - q) * half)
    (Ideal.reduceAdd_r2_a0 reduces_S16x12288_S12288 _ (ix1 c)) (Ideal.reduceAdd_r2_a0 reduces_S16x12288_S12288 _ (ix1 c))

/-- The dense half's result is the pooling of its samples. -/
theorem tcOut_val (c : Fin 12288) : tcOut (F := Ideal) X (ix2 0 c) = pool X c.val := by
  unfold tcOut
  rw [lastR_apply]
  have hs (t : Fin 16) : stepS (F := Ideal) 9 (blkX (F := Ideal) X 9) (sT (F := Ideal) X 9) (ix2 t c) = fSum X 100 t.val c.val :=
    sT_val X 10 le_rfl (ix2 t c)
  have hq (t : Fin 16) : stepQ (F := Ideal) 9 (blkX (F := Ideal) X 9) (qT (F := Ideal) X 9) (ix2 t c) = fSq X 100 t.val c.val :=
    qT_val X 10 le_rfl (ix2 t c)
  simp only [hs, hq]
  rw [Fin.sum_univ_eq_sum_range (fun t => fSum X 100 t c.val * fSum X 100 t c.val) 16, Fin.sum_univ_eq_sum_range (fun t => fSq X 100 t c.val) 16]
  rfl

end Cert.Proof

end
-- ==== Proof.PoolSc.lean ====
/-
  The SparseCore's half over the extended reals: what each vector subcore leaves after its four segments is the pooling of
  its 128 samples.
-/
module

public import proofs.«01_k».proof.Proof.Tile
public import proofs.«01_k».proof.Proof.PoolMath

@[expose] public section

set_option maxRecDepth 16384

noncomputable section

namespace Cert.Proof

open Cert.KernelIdeal Cert.KernelIdeal.Gen

open Idealize.ShloMosaic Idealize.ShloMosaic.ValueIdx
open Finset (range)

/-! ## One segment -/

section Segment
variable (B : S400x128.Idx → EReal) (g : Nat) (l : S16.Idx)

/-- The number that lane `l` of group `g` reads as entry `t` of field `j`. -/
def lane (j t : Nat) : EReal := B (pBlk (16 * j + t) (16 * g + (l 0).val))

/-- The running sum of entry `t`. -/
theorem sAt_val (t : Nat) (a : S16.Idx → EReal) : ∀ n, sAt (F := Ideal) B g t n a l = a l + ∑ j ∈ range n, lane B g l j t
  | 0 => (add_zero _).symm
  | n + 1 => by
    rw [Finset.sum_range_succ, ← add_assoc, ← sAt_val t a n]; rfl

/-- The running sum of the squares of a quarter of the entries. -/
theorem qAt_val (r : Nat) (a : S16.Idx → EReal) : ∀ n, qAt (F := Ideal) B g r n a l
    = a l + ∑ j ∈ range n, (lane B g l j r * lane B g l j r + lane B g l j (r + 4) * lane B g l j (r + 4)
        + lane B g l j (r + 8) * lane B g l j (r + 8) + lane B g l j (r + 12) * lane B g l j (r + 12))
  | 0 => (add_zero _).symm
  | n + 1 => by
    have e : qAt (F := Ideal) B g r (n + 1) a l = qAt (F := Ideal) B g r n a l + lane B g l n r * lane B g l n r
      + lane B g l n (r + 4) * lane B g l n (r + 4) + lane B g l n (r + 8) * lane B g l n (r + 8) + lane B g l n (r + 12) * lane B g l n (r + 12) := rfl
    rw [e, qAt_val r a n, Finset.sum_range_succ]
    abel

/-- The zero vector holds zero. -/
theorem zv_val : zv (F := Ideal) l = 0 := Ideal.ofBits_zero_f32

/-- The four quarters together: the squares of all sixteen entries. -/
theorem accQ_val (b : BitVec 1) (A : S2176.Idx → EReal) : accQ (F := Ideal) b B A g l
    = start (F := Ideal) b A (272 * g + 256) l + ∑ j ∈ range 25, ∑ t ∈ range 16, lane B g l j t * lane B g l j t := by
  have e : accQ (F := Ideal) b B A g l
      = (qAt (F := Ideal) B g 0 25 (start (F := Ideal) b A (272 * g + 256)) l + qAt (F := Ideal) B g 1 25 (zv (F := Ideal)) l)
        + (qAt (F := Ideal) B g 2 25 (zv (F := Ideal)) l + qAt (F := Ideal) B g 3 25 (zv (F := Ideal)) l) := rfl
  have e16 (j : Nat) : ∑ t ∈ range 16, lane B g l j t * lane B g l j t
      = (lane B g l j 0 * lane B g l j 0 + lane B g l j (0 + 4) * lane B g l j (0 + 4)
          + lane B g l j (0 + 8) * lane B g l j (0 + 8) + lane B g l j (0 + 12) * lane B g l j (0 + 12))
        + (lane B g l j 1 * lane B g l j 1 + lane B g l j (1 + 4) * lane B g l j (1 + 4)
          + lane B g l j (1 + 8) * lane B g l j (1 + 8) + lane B g l j (1 + 12) * lane B g l j (1 + 12))
        + (lane B g l j 2 * lane B g l j 2 + lane B g l j (2 + 4) * lane B g l j (2 + 4)
          + lane B g l j (2 + 8) * lane B g l j (2 + 8) + lane B g l j (2 + 12) * lane B g l j (2 + 12))
        + (lane B g l j 3 * lane B g l j 3 + lane B g l j (3 + 4) * lane B g l j (3 + 4)
          + lane B g l j (3 + 8) * lane B g l j (3 + 8) + lane B g l j (3 + 12) * lane B g l j (3 + 12)) := by
    simp only [Finset.sum_range_succ, Finset.sum_range_zero, zero_add, Nat.reduceAdd]
    abel
  rw [e, qAt_val, qAt_val, qAt_val, qAt_val, zv_val, Finset.sum_congr rfl fun j _ => e16 j]
  exact four_sums 25 _ _ _ _ _

/-- What a group's results are, from its sums. -/
theorem finish_val (s : Nat → S16.Idx → EReal) (q : S16.Idx → EReal) :
    finish (F := Ideal) s q l = (∑ t ∈ range 16, s t l * s t l - q l) * half := by
  simp only [Finset.sum_range_succ, Finset.sum_range_zero, zero_add]
  rfl

end Segment

/-! ## The four segments -/

variable (X : S1600x16384.Idx → EReal) (b : Fin 32) (A : S2176.Idx → EReal) (g l : Nat) (hg : g < 8) (hl : l < 16)

/-- The sample that lane `l` of group `g` in block `b` works on. -/
abbrev smp : Nat := 12288 + 128 * b.val + 16 * g + l

include hl in
theorem p16_val : (p16 l 0).val = l := Nat.mod_eq_of_lt hl

include hg hl in
/-- The numbers of segment `k`: its fields are the table's from `25 k` on. -/
theorem lane_seg (k j t : Nat) (hk : k < 4) (hj : j < 25) (ht : t < 16) :
    lane (segN (F := Ideal) X b k) g (p16 l) j t = xN X (16 * (25 * k + j) + t) (smp b g l) := by
  have hb := b.isLt
  have hp := p16_val l hl
  unfold lane
  refine congrArg X (funext fun a => ?_)
  match a with
  | ⟨0, _⟩ => exact Fin.ext (show 400 * (k % 4) + 1 * ((16 * j + t) % 400) = (16 * (25 * k + j) + t) % 1600 by omega)
  | ⟨1, _⟩ =>
    refine Fin.ext (show 12288 + 128 * b.val + 1 * ((16 * g + (p16 l 0).val) % 128) = (smp b g l) % 16384 from ?_)
    rw [hp]; unfold smp; omega

/-- Whether a segment is the first. -/
theorem start_flag (k o : Nat) (A : S2176.Idx → EReal) (v : S16.Idx) :
    start (F := Ideal) (flag k) A o v = if k = 0 then 0 else A (pAcc (o + (v 0).val)) := by
  unfold start flag
  split
  · exact zv_val v
  · rfl

include hg hl in
/-- A word of the accumulators after a segment. -/
theorem segAcc_word (f : BitVec 1) (B : S400x128.Idx → EReal) (A : S2176.Idx → EReal) (r : Nat) (hr : r < 17) :
    segAcc (F := Ideal) f B A (pAcc (272 * g + 16 * r + (p16 l 0).val)) = accR (F := Ideal) f B A g r (p16 l) := by
  have hp := p16_val l hl
  have e : (pAcc (272 * g + 16 * r + (p16 l 0).val) 0).val = 272 * g + 16 * r + l := by rw [pAcc_val _ (by omega), hp]
  unfold segAcc
  rw [e, show (272 * g + 16 * r + l) / 272 = g by omega, show (272 * g + 16 * r + l) % 272 / 16 = r by omega,
    show (272 * g + 16 * r + l) % 16 = l by omega]

include hg hl in
/-- After segment `k` the sum of entry `t` is that of the first `25 (k + 1)` fields. -/
theorem accS_val (t : Nat) (ht : t < 16) : ∀ k < 4,
    accS (F := Ideal) (flag k) (segN (F := Ideal) X b k) (accAt (F := Ideal) X b A k) g t (p16 l) = fSum X (25 * (k + 1)) t (smp b g l)
  | 0, hk => by
    unfold accS
    rw [sAt_val, start_flag, if_pos rfl, zero_add]
    exact Finset.sum_congr rfl fun j hj => by
      rw [lane_seg X b g l hg hl 0 j t hk (Finset.mem_range.mp hj) ht, Nat.mul_zero, Nat.zero_add]
  | k + 1, hk => by
    have e : accAt (F := Ideal) X b A (k + 1) (pAcc (272 * g + 16 * t + (p16 l 0).val)) = fSum X (25 * (k + 1)) t (smp b g l) := by
      refine (segAcc_word g l hg hl _ _ _ t (by omega)).trans ?_
      unfold accR
      rw [if_pos ht]
      exact accS_val t ht k (by omega)
    unfold accS
    rw [sAt_val, start_flag, if_neg (by omega), e, show 25 * (k + 1 + 1) = 25 * (k + 1) + 25 by omega, fSum_add]
    exact congrArg _ (Finset.sum_congr rfl fun j hj => lane_seg X b g l hg hl (k + 1) j t hk (Finset.mem_range.mp hj) ht)

include hg hl in
/-- After segment `k` the sum of squares is that of the first `25 (k + 1)` fields. -/
theorem accQ_seg : ∀ k < 4,
    accQ (F := Ideal) (flag k) (segN (F := Ideal) X b k) (accAt (F := Ideal) X b A k) g (p16 l)
      = ∑ j ∈ range (25 * (k + 1)), ∑ t ∈ range 16, xN X (16 * j + t) (smp b g l) * xN X (16 * j + t) (smp b g l)
  | 0, hk => by
    rw [accQ_val, start_flag, if_pos rfl, zero_add]
    exact Finset.sum_congr rfl fun j hj => Finset.sum_congr rfl fun t ht => by
      rw [lane_seg X b g l hg hl 0 j t hk (Finset.mem_range.mp hj) (Finset.mem_range.mp ht), Nat.mul_zero, Nat.zero_add]
  | k + 1, hk => by
    have e : accAt (F := Ideal) X b A (k + 1) (pAcc (272 * g + 256 + (p16 l 0).val))
        = ∑ j ∈ range (25 * (k + 1)), ∑ t ∈ range 16, xN X (16 * j + t) (smp b g l) * xN X (16 * j + t) (smp b g l) :=
      (segAcc_word g l hg hl _ _ _ 16 (by omega)).trans (accQ_seg k (by omega))
    rw [accQ_val, start_flag, if_neg (by omega), e, show 25 * (k + 1 + 1) = 25 * (k + 1) + 25 by omega, Finset.sum_range_add]
    exact congrArg _ (Finset.sum_congr rfl fun j hj => Finset.sum_congr rfl fun t ht => by
      rw [lane_seg X b g l hg hl (k + 1) j t hk (Finset.mem_range.mp hj) (Finset.mem_range.mp ht)])

include hg hl in
/-- What a subcore writes for a sample is its pooling. -/
theorem outG_val : outG (F := Ideal) (flag 3) (segN (F := Ideal) X b 3) (accAt (F := Ideal) X b A 3) g (p16 l) = pool X (smp b g l) := by
  unfold outG
  rw [finish_val, accQ_seg X b A g l hg hl 3 (by omega), ← fSq_comm,
    Finset.sum_congr rfl fun t ht => by rw [accS_val X b A g l hg hl t (Finset.mem_range.mp ht) 3 (by omega)]]
  rfl

/-- The SparseCore's half is the pooling of its samples. -/
theorem oVal_val (y : Fin 4096) : oVal (F := Ideal) X (ix1 y) = pool X (12288 + y.val) := by
  have hy := y.isLt
  have e : oVal (F := Ideal) X (ix1 y) = _ := outG_val X ⟨y.val / 128, by omega⟩ (fun _ => Scalar.ofBits (F := Ideal) .f32 0x00000000#32)
    (y.val % 128 / 16) (y.val % 128 % 16) (by omega) (by omega)
  rw [e]
  exact congrArg (pool X) (show 12288 + 128 * (y.val / 128) + 16 * (y.val % 128 / 16) + y.val % 128 % 16 = 12288 + y.val by omega)

end Cert.Proof

end
-- ==== Proof.PoolEq.lean ====
/-
  The two programs' results over the extended reals: each is the pooling of the field table, sample by sample.
-/
module

public import proofs.«01_k».proof.Proof.Main
public import proofs.«01_k».proof.Proof.PoolTc
public import proofs.«01_k».proof.Proof.PoolSc
public import proofs.«01_k».proof.Proof.Gen.ReferenceIdeal
public import Idealize.ShloMosaic.Lib.Pointwise
public import Idealize.ShloMosaic.Lib.IdealHost

@[expose] public section

set_option maxRecDepth 16384

noncomputable section

namespace Cert.Proof

open Cert.KernelIdeal Cert.KernelIdeal.Gen

open Idealize.ShloMosaic hiding ix1 ix2
open Idealize.ShloMosaic.ValueIdx
open Finset (range)

/-- The argument's entry of sample `b`, field `f` and coordinate `t`. -/
abbrev entry (a : S16384x100x16.Idx → EReal) (b : Fin 16384) (f : Fin 100) (t : Fin 16) : EReal :=
  a (Idealize.ShloMosaic.ix3 b f t)

/-! ## The field table -/

/-- The table's row `16 f + t` at column `b` is the argument's entry of sample `b`, field `f`, coordinate `t`. -/
theorem tbl_val (a : S16384x100x16.Idx → EReal) (b : Fin 16384) (f : Fin 100) (t : Fin 16) :
    xN (tbl (F := Ideal) a) (16 * f.val + t.val) b.val = entry a b f t := by
  have hr : (16 * f.val + t.val) % 1600 = 16 * f.val + t.val := Nat.mod_eq_of_lt (by omega)
  have hc : b.val % 16384 = b.val := Nat.mod_eq_of_lt b.isLt
  refine (shapeCast_apply (s := S100x16x16384) (t := S1600x16384) _ _ _ (Idealize.ShloMosaic.ix3 f t b) ?_).trans
    (transpose_apply [1, 2, 0] a transposes_S16384x100x16_S100x16x16384_1_2_0 _ _ fun d => ?_)
  · rw [Shape.rowMajor_val_two, Shape.rowMajor_val_three]
    show (f.val * 16 + t.val) * 16384 + b.val = (16 * f.val + t.val) % 1600 * 16384 + b.val % 16384
    rw [hr, hc, Nat.mul_comm f.val]
  · match d with
    | ⟨0, _⟩ => rfl
    | ⟨1, _⟩ => rfl
    | ⟨2, _⟩ => rfl

/-- The sum of one coordinate over the fields, and the sum of its squares. -/
theorem fSum_tbl (a : S16384x100x16.Idx → EReal) (b : Fin 16384) (t : Fin 16) :
    ∑ f : Fin 100, entry a b f t = fSum (tbl (F := Ideal) a) 100 t.val b.val :=
  (Finset.sum_congr rfl fun f _ => (tbl_val a b f t).symm).trans
    (Fin.sum_univ_eq_sum_range (fun j => xN (tbl (F := Ideal) a) (16 * j + t.val) b.val) 100)
theorem fSq_tbl (a : S16384x100x16.Idx → EReal) (b : Fin 16384) (t : Fin 16) :
    ∑ f : Fin 100, entry a b f t * entry a b f t = fSq (tbl (F := Ideal) a) 100 t.val b.val :=
  (Finset.sum_congr rfl fun f _ => by rw [tbl_val a b f t]).trans
    (Fin.sum_univ_eq_sum_range
      (fun j => xN (tbl (F := Ideal) a) (16 * j + t.val) b.val * xN (tbl (F := Ideal) a) (16 * j + t.val) b.val) 100)

/-! ## The kernel's result -/

/-- The program's result is the pooling of each sample: the first 12288 by the dense half, the others by the tiles. -/
theorem res_val (a : S16384x100x16.Idx → EReal) (i : S16384x1.Idx) : res (F := Ideal) a i = pool (tbl (F := Ideal) a) (i 0).val := by
  have h0 : (i 0).val < 16384 := (i 0).isLt
  have h1 : (i 1).val = 0 := Nat.lt_one_iff.mp (i 1).isLt
  refine (shapeCast_apply (s := S16384) (t := S16384x1) _ _ i (ix1 ⟨(i 0).val, h0⟩) ?_).trans ?_
  · rw [Shape.rowMajor_val_two, Shape.rowMajor_val_one, h1]
    show (i 0).val = (i 0).val * 1 + 0
    omega
  by_cases h : (i 0).val < 12288
  · refine (concatenate_pair_apply_left (t := S16384) 0 _ _ concatenates_S12288_S4096_S16384_d0 _ rfl (ix1 ⟨(i 0).val, h⟩) fun b => ?_).trans ?_
    · match b with
      | ⟨0, _⟩ => rfl
    refine (shapeCast_apply (s := S1x12288) (t := S12288) _ _ _ (ix2 0 ⟨(i 0).val, h⟩) ?_).trans (tcOut_val _ ⟨(i 0).val, h⟩)
    rw [Shape.rowMajor_val_two, Shape.rowMajor_val_one]
    show 0 * 12288 + (i 0).val = (i 0).val
    omega
  · have hs : (i 0).val - 12288 < 4096 := by omega
    refine (concatenate_pair_apply_right (t := S16384) 0 _ _ concatenates_S12288_S4096_S16384_d0 _ rfl rfl (ix1 ⟨(i 0).val - 12288, hs⟩)
      (fun b hb => absurd (Subsingleton.elim (α := Fin 1) _ _) hb) ?_).trans ((oVal_val _ ⟨(i 0).val - 12288, hs⟩).trans (congrArg (pool _) ?_))
    · show (i 0).val - 12288 + 12288 = (i 0).val
      omega
    · show 12288 + ((i 0).val - 12288) = (i 0).val
      omega

/-! ## The reference's result -/

section Reference

/-- The reference's sum over the fields, of any array. -/
abbrev refSum (x : S16384x100x16.Idx → EReal) : FVec Ideal Cert.ReferenceIdeal.S16384x16 .f32 :=
  Host.reduceAdd (F := Ideal) (φ := .f32) x (constant Cert.ReferenceIdeal.S_ .f32 0x00000000#32) Cert.ReferenceIdeal.Gen.reducesTo_S16384x100x16_S16384x16_d1
    Cert.ReferenceIdeal.Gen.h_S_

/-- The reference's result, of its argument. -/
abbrev refRes (a : FVec Ideal Cert.ReferenceIdeal.S16384x100x16 .f32) : FVec Ideal Cert.ReferenceIdeal.S16384x1 .f32 :=
  broadcastInDim Cert.ReferenceIdeal.S16384x1 ![0] Cert.ReferenceIdeal.Gen.bcast_S16384_S16384x1_0
    (Host.reduceAdd (F := Ideal) (φ := .f32)
      (mulf (subf (mulf (refSum a) (refSum a)) (refSum (mulf a a)))
        (broadcastInDim Cert.ReferenceIdeal.S16384x16 ![] Cert.ReferenceIdeal.Gen.bcast_S_S16384x16 (constant Cert.ReferenceIdeal.S_ .f32 0x3F000000#32)))
      (constant Cert.ReferenceIdeal.S_ .f32 0x00000000#32) Cert.ReferenceIdeal.Gen.reducesTo_S16384x16_S16384_d1 Cert.ReferenceIdeal.Gen.h_S_)

/-- The sum over the fields at one sample and coordinate. -/
theorem refSum_val (x : S16384x100x16.Idx → EReal) (b : Fin 16384) (t : Fin 16) :
    refSum x (ix2 b t) = ∑ f : Fin 100, entry x b f t := by
  refine (Ideal.hostReduceAdd_r3_a1 (n0 := 16384) (n1 := 100) (n2 := 16) _ x _ (ix2 b t)).trans ?_
  rw [show (constant (F := Ideal) Cert.ReferenceIdeal.S_ .f32 0x00000000#32 (Shape.Idx.first Cert.ReferenceIdeal.Gen.h_S_) : EReal) = 0 from
    Ideal.ofBits_zero_f32, zero_add]

/-- The reference's result is the pooling of each sample. -/
theorem refRes_val (a : S16384x100x16.Idx → EReal) (i : S16384x1.Idx) : refRes a i = pool (tbl (F := Ideal) a) (i 0).val := by
  have h0 : (i 0).val < 16384 := (i 0).isLt
  refine (broadcastInDim_apply _ _ _ i (ix1 ⟨(i 0).val, h0⟩) fun d => ?_).trans ?_
  · match d with
    | ⟨0, _⟩ => rfl
  refine (Ideal.hostReduceAdd_r2_a1 (n0 := 16384) (n1 := 16) _ _ _ (ix1 ⟨(i 0).val, h0⟩)).trans ?_
  rw [show (constant (F := Ideal) Cert.ReferenceIdeal.S_ .f32 0x00000000#32 (Shape.Idx.first Cert.ReferenceIdeal.Gen.h_S_) : EReal) = 0 from
    Ideal.ofBits_zero_f32, zero_add, ← pool_eq,
    ← Fin.sum_univ_eq_sum_range fun t => (fSum (tbl (F := Ideal) a) 100 t (i 0).val * fSum (tbl (F := Ideal) a) 100 t (i 0).val
      - fSq (tbl (F := Ideal) a) 100 t (i 0).val) * half]
  refine Finset.sum_congr rfl fun t _ => ?_
  rw [← fSum_tbl a ⟨(i 0).val, h0⟩ t, ← fSq_tbl a ⟨(i 0).val, h0⟩ t]
  show (refSum a (ix2 ⟨(i 0).val, h0⟩ t) * refSum a (ix2 ⟨(i 0).val, h0⟩ t) - refSum (mulf (F := Ideal) (φ := .f32) a a) (ix2 ⟨(i 0).val, h0⟩ t)) * half = _
  rw [refSum_val, refSum_val]
  rfl

end Reference

/-- The two results are one. -/
theorem refRes_eq (a : S16384x100x16.Idx → EReal) : refRes a = res (F := Ideal) a :=
  funext fun i => (refRes_val a i).trans (res_val a i).symm

end Cert.Proof

end
-- ==== Proof.lean ====
/-
  The proof of `Cert.Claim` (proofs.«01_k».proof.Defs), assembled: the kernel's frames from its one run over any float values
  (Proof/Main.lean), the reference's from its run read back, and the agreement of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.PoolEq
public import Idealize.ShloMosaic.Adequacy
public import Idealize.ShloMosaic.Init

@[expose] public section

noncomputable section

namespace Cert.Proof

open Idealize.ShloMosaic Idealize.SL.Sem Cert.Kernel

attribute [instance] Cert.Kernel.Gen.facts

/-- The two printed texts' kernels are one table of bodies. -/
theorem tables₀ : Cert.Kernel.defs₀ (F := Bits) = Cert.KernelIdeal.defs₀ (F := Bits) := by
  funext p l a
  match p, l, a with
  | .tc, 0, a => rfl
  | .tc, 1, a => rfl
  | .scScalar c, 0, a => rfl
  | .scScalar c, 1, a => rfl
  | .scVector c s, 0, a => rfl
  | .scVector c s, 1, a => rfl

/-- So are their whole tables. -/
theorem tables : Cert.Kernel.defs (F := Bits) = Cert.KernelIdeal.defs (F := Bits) :=
  congrArg (fun t => (Cert.KernelIdeal.sc (F := Bits)).defs (Pipeline.defs Cert.KernelIdeal.pcfgs t)) tables₀

/-- `Cert.quiescent_Kernel`: the program's run, at the float words. -/
theorem frame_kernel : Cert.quiescent_Kernel := by
  intro m ρ _
  rw [tables]
  exact (θ_run (Cert.KernelIdeal.defs (F := Bits)) _ _).mono (fun _ h => ⟨fun c => (h.1 c).1, h.2⟩) (run_main (F := Bits) m ρ)

/-- `Cert.quiescent_KernelIdeal`: the same run, at the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- `Cert.quiescent_ReferenceIdeal`: the reference's run keeps its argument, and it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- `Cert.algebraic_KernelIdeal_ReferenceIdeal`: both programs leave the pooling of the samples, whatever the argument. -/
theorem equal : Cert.algebraic_KernelIdeal_ReferenceIdeal := by
  intro m g m' g' _ ha
  refine ⟨fun c => res (F := Ideal) (argOf m c),
    (θ_run Cert.KernelIdeal.defs _ _).mono (fun _ h c => ⟨(h.1 c).2, (h.1 c).1⟩) (run_main (F := Ideal) m g),
    (θ_run Cert.ReferenceIdeal.defs _ _).mono (fun r h c => ⟨?_, (h c).2⟩) (Cert.ReferenceIdeal.Value.run (F := Ideal) m' g')⟩
  refine (h c).1.trans ?_
  rw [ha c]
  exact refRes_eq (argOf m c)

/-- Everything the certificate claims. -/
theorem claim : Cert.Claim :=
  ⟨Cert.Kernel.Gen.facts, Cert.KernelIdeal.Gen.facts, Cert.ReferenceIdeal.Gen.facts,
    frame_kernel, frame_ideal, frame_reference, trivial, equal⟩

end Cert.Proof

end
